-- ==== Defs.lean ====
def Pre_Kernel [hPre_eot_in_range : Cert.Pre_eot_in_range.Facts] (m : (ℓ : Loc Cert.Kernel.nD Cert.Kernel.τ Cert.Kernel.sig) → Buf (Elt Bits) ℓ) : Prop :=
  ∀ c : Dev Cert.Kernel.nD,
    (Cert.Pre_eot_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_eot_in_range : Cert.Pre_eot_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_eot_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_eot_in_range : Cert.Pre_eot_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_eot_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_eot_in_range : Cert.Pre_eot_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_eot_in_range : Cert.Pre_eot_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_eot_in_range : Cert.Pre_eot_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_eot_in_range : Cert.Pre_eot_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_eot_in_range : Cert.Pre_eot_in_range.Facts),
    quiescent_Kernel (hKernel := hKernel) (hPre_eot_in_range := hPre_eot_in_range)
    ∧ quiescent_KernelIdeal (hKernelIdeal := hKernelIdeal) (hPre_eot_in_range := hPre_eot_in_range)
    ∧ quiescent_ReferenceIdeal (hReferenceIdeal := hReferenceIdeal) (hPre_eot_in_range := hPre_eot_in_range)
    ∧ preserves_Kernel_KernelIdeal
    ∧ algebraic_KernelIdeal_ReferenceIdeal (hKernelIdeal := hKernelIdeal) (hReferenceIdeal := hReferenceIdeal) (hPre_eot_in_range := hPre_eot_in_range)
-- ==== Pre_eot_in_range.lean ====
abbrev S1024x77x512 : Shape := ⟨3, ![1024, 77, 512]⟩
abbrev S1024x77 : Shape := ⟨2, ![1024, 77]⟩
abbrev S77x512 : Shape := ⟨2, ![77, 512]⟩
abbrev S_ : Shape := ⟨0, ![]⟩
abbrev S1024 : Shape := ⟨1, ![1024]⟩

class Facts : Prop where
  reducesTo_S1024x77_S1024_d1 : S1024x77.ReducesTo [1] S1024
  h_S_ : 0 < S_.numel
  bcast_S_S1024 : S_.BroadcastsInDim S1024 (![] : Fin 0 → Fin S1024.rank)
  reducesTo_S1024_S_d0 : S1024.ReducesTo [0] S_

variable [Facts]

def reducer_argmax_i32_i32 : BitVec 32 × BitVec 32 → BitVec 32 × BitVec 32 → BitVec 32 × BitVec 32 :=
  fun a b =>
    let v2 := IntOp.cmpi .sgt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def fn_argmax {F : FTy → Type} [FloatOps F] (arg0 : IVec S1024x77 32) : IVec S1024 32 :=
  let v0 : IVec S1024x77 32 := iotaInDim S1024x77 32 1
  let c : IVec S_ 32 := constantI S_ 32 2147483648#32
  let c_0 : IVec S_ 32 := constantI S_ 32 0#32
  let v1_0 : IVec S1024 32 := (fun x y u v j => (Host.reduce2 reducer_argmax_i32_i32 x y u v reducesTo_S1024x77_S1024_d1 h_S_ j).1) arg0 v0 c c_0
  let v1_1 : IVec S1024 32 := (fun x y u v j => (Host.reduce2 reducer_argmax_i32_i32 x y u v reducesTo_S1024x77_S1024_d1 h_S_ j).2) arg0 v0 c c_0
  v1_1

def fn {F : FTy → Type} [FloatOps F] (main_arg0 : FVec F S1024x77x512 .f32) (main_arg1 : IVec S1024x77 32) (main_arg2 : FVec F S77x512 .f32) : IVec S_ 1 :=
  let main_v0 : IVec S1024 32 := fn_argmax (F := F) main_arg1
  let main_c : IVec S_ 32 := constantI S_ 32 5#32
  let main_v1 : IVec S1024 32 := broadcastInDim S1024 ![] bcast_S_S1024 main_c
  let main_v2 : IVec S1024 1 := cmpi .sge main_v0 main_v1
  let main_c_0 : IVec S_ 32 := constantI S_ 32 60#32
  let main_v3 : IVec S1024 32 := broadcastInDim S1024 ![] bcast_S_S1024 main_c_0
  let main_v4 : IVec S1024 1 := cmpi .slt main_v0 main_v3
  let main_v5 : IVec S1024 1 := andi main_v2 main_v4
  let main_c_1 : IVec S_ 1 := constantI S_ 1 1#1
  let main_v6 : IVec S_ 1 := (fun x v => Host.reduce IntOp.andi x v reducesTo_S1024_S_d0 h_S_) main_v5 main_c_1
  main_v6
-- ==== Kernel.lean ====
abbrev S1024x77x512 : Shape := ⟨3, ![1024, 77, 512]⟩
abbrev S1024x77 : Shape := ⟨2, ![1024, 77]⟩
abbrev S77x512 : Shape := ⟨2, ![77, 512]⟩
abbrev S78848x512 : Shape := ⟨2, ![78848, 512]⟩
abbrev S32x32x77 : Shape := ⟨3, ![32, 32, 77]⟩
abbrev S60x512 : Shape := ⟨2, ![60, 512]⟩
abbrev S32x77 : Shape := ⟨2, ![32, 77]⟩
abbrev S_ : Shape := ⟨0, ![]⟩
abbrev S16 : Shape := ⟨1, ![16]⟩
abbrev S1x16 : Shape := ⟨2, ![1, 16]⟩
abbrev S76x512 : Shape := ⟨2, ![76, 512]⟩
abbrev S1x512 : Shape := ⟨2, ![1, 512]⟩
abbrev S8x512 : Shape := ⟨2, ![8, 512]⟩
abbrev S4x512 : Shape := ⟨2, ![4, 512]⟩
abbrev S1x32x77 : Shape := ⟨3, ![1, 32, 77]⟩

abbrev nBuf : Table → Nat
  | .hbm => 8
  | .local .scVector .vmem => 4
  | _ => 0

abbrev bufTy : (tb : Table) → Fin (nBuf tb) → BufTy
  | .hbm, ⟨0, _⟩ => ⟨S1024x77x512, .f32⟩
  | .hbm, ⟨1, _⟩ => ⟨S1024x77, .i32⟩
  | .hbm, ⟨2, _⟩ => ⟨S77x512, .f32⟩
  | .hbm, ⟨3, _⟩ => ⟨S78848x512, .f32⟩
  | .hbm, ⟨4, _⟩ => ⟨S78848x512, .f32⟩
  | .hbm, ⟨5, _⟩ => ⟨S32x32x77, .f32⟩
  | .hbm, ⟨6, _⟩ => ⟨S1024x77x512, .f32⟩
  | .hbm, ⟨7, _⟩ => ⟨S1024x77, .f32⟩
  | .local .scVector .vmem, ⟨0, _⟩ => ⟨S77x512, .f32⟩
  | .local .scVector .vmem, ⟨1, _⟩ => ⟨S60x512, .f32⟩
  | .local .scVector .vmem, ⟨2, _⟩ => ⟨S32x77, .i32⟩
  | .local .scVector .vmem, ⟨3, _⟩ => ⟨S32x77, .f32⟩
  | _, _ => ⟨S1024x77x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v0_scv : Ref sig .scVector := ⟨.hbm, 3, rfl⟩
abbrev main_arg1_scv : Ref sig .scVector := ⟨.hbm, 1, rfl⟩
abbrev main_arg2_scv : Ref sig .scVector := ⟨.hbm, 2, rfl⟩
abbrev main_v1_0_scv : Ref sig .scVector := ⟨.hbm, 4, rfl⟩
abbrev main_v1_1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  let c0_i32_3_r1 : BitVec 32 := 0#32
  ![v2.toNat, 0]
@[reducible] def k0_t1_loop : Scf.Loop 32 :=
  let c0_i32_0 : BitVec 32 := 0#32
  let c32_i32_1 : BitVec 32 := 32#32
  let v4 : BitVec 32 := Scalar.addi c0_i32_0 c32_i32_1
  let c1_i32 : BitVec 32 := 1#32
  ⟨c0_i32_0, v4, c1_i32⟩
def k0_off2 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let v8 : Index := Scalar.indexCast arg11
  let c0 : Index := 0#32
  ![v8.toNat, 0]
def k0_off3 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let v10 : Index := Scalar.indexCast arg11
  let c16 : Index := 16#32
  ![v10.toNat, 16]
def k0_off4 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let v12 : Index := Scalar.indexCast arg11
  let c32 : Index := 32#32
  ![v12.toNat, 32]
def k0_off5 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let v14 : Index := Scalar.indexCast arg11
  let c48 : Index := 48#32
  ![v14.toNat, 48]
def k0_off6 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let v16 : Index := Scalar.indexCast arg11
  let c61 : Index := 61#32
  ![v16.toNat, 61]
def k0_off7 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32_3 : BitVec 32 := 32#32
  let v5 : BitVec 32 := Scalar.muli v1 c32_i32_3
  let c0_i32_0 : BitVec 32 := 0#32
  let c1_i32 : BitVec 32 := 1#32
  let arg11 : BitVec 32 := Scf.iv c0_i32_0 c1_i32 k0_t1
  let v6 : BitVec 32 := Scalar.addi v5 arg11
  let c77_i32 : BitVec 32 := 77#32
  let v7 : BitVec 32 := Scalar.muli v6 c77_i32
  let c1_i32_14 : BitVec 32 := 1#32
  let v70 : BitVec 32 := Scalar.addi v7 c1_i32_14
  let c0_i32_84_r2 : BitVec 32 := 0#32
  ![v70.toNat, 0]
def k0_off8 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32_3 : BitVec 32 := 32#32
  let v5 : BitVec 32 := Scalar.muli v1 c32_i32_3
  let c0_i32_0 : BitVec 32 := 0#32
  let c1_i32 : BitVec 32 := 1#32
  let arg11 : BitVec 32 := Scf.iv c0_i32_0 c1_i32 k0_t1
  let v6 : BitVec 32 := Scalar.addi v5 arg11
  let c77_i32 : BitVec 32 := 77#32
  let v7 : BitVec 32 := Scalar.muli v6 c77_i32
  let c0_i32_82_r3 : BitVec 32 := 0#32
  ![v7.toNat, 0]
def k0_off9 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32_3 : BitVec 32 := 32#32
  let v5 : BitVec 32 := Scalar.muli v1 c32_i32_3
  let c0_i32_0 : BitVec 32 := 0#32
  let c1_i32 : BitVec 32 := 1#32
  let arg11 : BitVec 32 := Scf.iv c0_i32_0 c1_i32 k0_t1
  let v6 : BitVec 32 := Scalar.addi v5 arg11
  let c77_i32 : BitVec 32 := 77#32
  let v7 : BitVec 32 := Scalar.muli v6 c77_i32
  let c0_i32_84_r4 : BitVec 32 := 0#32
  ![v7.toNat, 0]
@[reducible] def k0_t2_loop (v69 : BitVec 32) : Scf.Loop 32 :=
  let c0_i32_23 : BitVec 32 := 0#32
  let c1_i32_15 : BitVec 32 := 1#32
  let v71 : BitVec 32 := Scalar.subi v69 c1_i32_15
  let c0_i32_16 : BitVec 32 := 0#32
  let v73 : BitVec 1 := Scalar.cmpi .sgt v71 c0_i32_16
  let v74 : BitVec 32 := Scalar.extui v73
  let c0_i32_17 : BitVec 32 := 0#32
  let v75 : BitVec 1 := Scalar.cmpi .slt v71 c0_i32_17
  let v76 : BitVec 32 := Scalar.extui v75
  let v77 : BitVec 32 := Scalar.subi v74 v76
  let c8_i32 : BitVec 32 := 8#32
  let c0_i32_18 : BitVec 32 := 0#32
  let v78 : BitVec 1 := Scalar.cmpi .sgt c8_i32 c0_i32_18
  let v79 : BitVec 32 := Scalar.extui v78
  let c0_i32_19 : BitVec 32 := 0#32
  let v80 : BitVec 1 := Scalar.cmpi .slt c8_i32 c0_i32_19
  let v81 : BitVec 32 := Scalar.extui v80
  let v82 : BitVec 32 := Scalar.subi v79 v81
  let v83 : BitVec 1 := Scalar.cmpi .ne v77 v82
  let v84 : BitVec 32 := Scalar.remsi v71 c8_i32
  let c0_i32_20 : BitVec 32 := 0#32
  let v85 : BitVec 1 := Scalar.cmpi .ne v84 c0_i32_20
  let v86 : BitVec 1 := Scalar.andi v83 v85
  let v72 : BitVec 32 := Scalar.divsi v71 c8_i32
  let c1_i32_21 : BitVec 32 := 1#32
  let v87 : BitVec 32 := Scalar.subi v72 c1_i32_21
  let v88 : BitVec 32 := Scalar.select v86 v87 v72
  let v89 : BitVec 32 := Scalar.subi v88 c0_i32_23
  let c1_i32_24 : BitVec 32 := 1#32
  let v91 : BitVec 32 := Scalar.divsi v89 c1_i32_24
  let v92 : BitVec 32 := Scalar.muli v91 c1_i32_24
  let v93 : BitVec 32 := Scalar.addi c0_i32_23 v92
  let c1_i32_25 : BitVec 32 := 1#32
  ⟨c0_i32_23, v93, c1_i32_25⟩

def k0_off10 (v69 : BitVec 32) (k0_t2 : Fin (k0_t2_loop v69).trips) : Fin 2 → Nat :=
  let c1_i32_83 : BitVec 32 := 1#32
  let c8_i32_82 : BitVec 32 := 8#32
  let c0_i32_23 : BitVec 32 := 0#32
  let c1_i32_25 : BitVec 32 := 1#32
  let arg12 : BitVec 32 := Scf.iv c0_i32_23 c1_i32_25 k0_t2
  let v256 : BitVec 32 := Scalar.muli c8_i32_82 arg12
  let v257 : BitVec 32 := Scalar.addi c1_i32_83 v256
  let c0_i32_86_r5 : BitVec 32 := 0#32
  ![v257.toNat, 0]
def k0_off11 (i : grid0.Coords) (k0_t1 : Fin k0_t1_loop.trips) (v69 : BitVec 32) (k0_t2 : Fin (k0_t2_loop v69).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32_3 : BitVec 32 := 32#32
  let v5 : BitVec 32 := Scalar.muli v1 c32_i32_3
  let c0_i32_0 : BitVec 32 := 0#32
  let c1_i32 : BitVec 32 := 1#32
  let arg11 : BitVec 32 := Scf.iv c0_i32_0 c1_i32 k0_t1
  let v6 : BitVec 32 := Scalar.addi v5 arg11
  let c77_i32 : BitVec 32 := 77#32
  let v7 : BitVec 32 := Scalar.muli v6 c77_i32
  let c9_i32_84 : BitVec 32 := 9#32
  let v258 : BitVec 32 := Scalar.addi v7 c9_i32_84
  let c8_i32_85 : BitVec 32 := 8#32
  let c0_i32_23 : BitVec 32 := 0#32
  let c1_i32_25 : BitVec 32 := 1#32
  let arg12 : BitVec 32 := Scf.iv c0_i32_23 c1_i32_25 k0_t2
  let v259 : BitVec 32 := Scalar.muli c8_i32_85 arg12
  let v260 : BitVec 32 := Scalar.addi v258 v259
  let c0_i32_87_r5 : BitVec 32 := 0#32
  ![v260.toNat, 0]
@[reducible] def k0_t3_loop (v69 : BitVec 32) : Scf.Loop 32 :=
  let c0_i32_23 : BitVec 32 := 0#32
  let c1_i32_15 : BitVec 32 := 1#32
  let v71 : BitVec 32 := Scalar.subi v69 c1_i32_15
  let c0_i32_16 : BitVec 32 := 0#32
  let v73 : BitVec 1 := Scalar.cmpi .sgt v71 c0_i32_16
  let v74 : BitVec 32 := Scalar.extui v73
  let c0_i32_17 : BitVec 32 := 0#32
  let v75 : BitVec 1 := Scalar.cmpi .slt v71 c0_i32_17
  let v76 : BitVec 32 := Scalar.extui v75
  let v77 : BitVec 32 := Scalar.subi v74 v76
  let c8_i32 : BitVec 32 := 8#32
  let c0_i32_18 : BitVec 32 := 0#32
  let v78 : BitVec 1 := Scalar.cmpi .sgt c8_i32 c0_i32_18
  let v79 : BitVec 32 := Scalar.extui v78
  let c0_i32_19 : BitVec 32 := 0#32
  let v80 : BitVec 1 := Scalar.cmpi .slt c8_i32 c0_i32_19
  let v81 : BitVec 32 := Scalar.extui v80
  let v82 : BitVec 32 := Scalar.subi v79 v81
  let v83 : BitVec 1 := Scalar.cmpi .ne v77 v82
  let v84 : BitVec 32 := Scalar.remsi v71 c8_i32
  let c0_i32_20 : BitVec 32 := 0#32
  let v85 : BitVec 1 := Scalar.cmpi .ne v84 c0_i32_20
  let v86 : BitVec 1 := Scalar.andi v83 v85
  let v72 : BitVec 32 := Scalar.divsi v71 c8_i32
  let c1_i32_21 : BitVec 32 := 1#32
  let v87 : BitVec 32 := Scalar.subi v72 c1_i32_21
  let v88 : BitVec 32 := Scalar.select v86 v87 v72
  let v89 : BitVec 32 := Scalar.subi v88 c0_i32_23
  let c1_i32_24 : BitVec 32 := 1#32
  let v91 : BitVec 32 := Scalar.divsi v89 c1_i32_24
  let v92 : BitVec 32 := Scalar.muli v91 c1_i32_24
  let v93 : BitVec 32 := Scalar.addi c0_i32_23 v92
  let v90 : BitVec 32 := Scalar.addi c0_i32_23 v89
  let c1_i32_26 : BitVec 32 := 1#32
  ⟨v93, v90, c1_i32_26⟩
def k0_off12 (v69 : BitVec 32) (k0_t3 : Fin (k0_t3_loop v69).trips) : Fin 2 → Nat :=
  let c1_i32_83 : BitVec 32 := 1#32
  let c8_i32_82 : BitVec 32 := 8#32
  let c0_i32_23 : BitVec 32 := 0#32
  let c1_i32_15 : BitVec 32 := 1#32
  let v71 : BitVec 32 := Scalar.subi v69 c1_i32_15
  let c0_i32_16 : BitVec 32 := 0#32
  let v73 : BitVec 1 := Scalar.cmpi .sgt v71 c0_i32_16
  let v74 : BitVec 32 := Scalar.extui v73
  let c0_i32_17 : BitVec 32 := 0#32
  let v75 : BitVec 1 := Scalar.cmpi .slt v71 c0_i32_17
  let v76 : BitVec 32 := Scalar.extui v75
  let v77 : BitVec 32 := Scalar.subi v74 v76
  let c8_i32 : BitVec 32 := 8#32
  let c0_i32_18 : BitVec 32 := 0#32
  let v78 : BitVec 1 := Scalar.cmpi .sgt c8_i32 c0_i32_18
  let v79 : BitVec 32 := Scalar.extui v78
  let c0_i32_19 : BitVec 32 := 0#32
  let v80 : BitVec 1 := Scalar.cmpi .slt c8_i32 c0_i32_19
  let v81 : BitVec 32 := Scalar.extui v80
  let v82 : BitVec 32 := Scalar.subi v79 v81
  let v83 : BitVec 1 := Scalar.cmpi .ne v77 v82
  let v84 : BitVec 32 := Scalar.remsi v71 c8_i32
  let c0_i32_20 : BitVec 32 := 0#32
  let v85 : BitVec 1 := Scalar.cmpi .ne v84 c0_i32_20
  let v86 : BitVec 1 := Scalar.andi v83 v85
  let v72 : BitVec 32 := Scalar.divsi v71 c8_i32
  let c1_i32_21 : BitVec 32 := 1#32
  let v87 : BitVec 32 := Scalar.subi v72 c1_i32_21
  let v88 : BitVec 32 := Scalar.select v86 v87 v72
  let v89 : BitVec 32 := Scalar.subi v88 c0_i32_23
  let c1_i32_24 : BitVec 32 := 1#32
  let v91 : BitVec 32 := Scalar.divsi v89 c1_i32_24
  let v92 : BitVec 32 := Scalar.muli v91 c1_i32_24
  let v93 : BitVec 32 := Scalar.addi c0_i32_23 v92
  let c1_i32_26 : BitVec 32 := 1#32
  let arg12 : BitVec 32 := Scf.iv v93 c1_i32_26 k0_t3
  let v256 : BitVec 32 := Scalar.muli c8_i32_82 arg12
  let v257 : BitVec 32 := Scalar.addi c1_i32_83 v256
  let c0_i32_86_r6 : BitVec 32 := 0#32
  ![v257.toNat, 0]
def k0_off13 (i : grid0.Coords) (k0_t1 : Fin k0_t1_loop.trips) (v69 : BitVec 32) (k0_t3 : Fin (k0_t3_loop v69).trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32_3 : BitVec 32 := 32#32
  let v5 : BitVec 32 := Scalar.muli v1 c32_i32_3
  let c0_i32_0 : BitVec 32 := 0#32
  let c1_i32 : BitVec 32 := 1#32
  let arg11 : BitVec 32 := Scf.iv c0_i32_0 c1_i32 k0_t1
  let v6 : BitVec 32 := Scalar.addi v5 arg11
  let c77_i32 : BitVec 32 := 77#32
  let v7 : BitVec 32 := Scalar.muli v6 c77_i32
  let c9_i32_84 : BitVec 32 := 9#32
  let v258 : BitVec 32 := Scalar.addi v7 c9_i32_84
  let c8_i32_85 : BitVec 32 := 8#32
  let c0_i32_23 : BitVec 32 := 0#32
  let c1_i32_15 : BitVec 32 := 1#32
  let v71 : BitVec 32 := Scalar.subi v69 c1_i32_15
  let c0_i32_16 : BitVec 32 := 0#32
  let v73 : BitVec 1 := Scalar.cmpi .sgt v71 c0_i32_16
  let v74 : BitVec 32 := Scalar.extui v73
  let c0_i32_17 : BitVec 32 := 0#32
  let v75 : BitVec 1 := Scalar.cmpi .slt v71 c0_i32_17
  let v76 : BitVec 32 := Scalar.extui v75
  let v77 : BitVec 32 := Scalar.subi v74 v76
  let c8_i32 : BitVec 32 := 8#32
  let c0_i32_18 : BitVec 32 := 0#32
  let v78 : BitVec 1 := Scalar.cmpi .sgt c8_i32 c0_i32_18
  let v79 : BitVec 32 := Scalar.extui v78
  let c0_i32_19 : BitVec 32 := 0#32
  let v80 : BitVec 1 := Scalar.cmpi .slt c8_i32 c0_i32_19
  let v81 : BitVec 32 := Scalar.extui v80
  let v82 : BitVec 32 := Scalar.subi v79 v81
  let v83 : BitVec 1 := Scalar.cmpi .ne v77 v82
  let v84 : BitVec 32 := Scalar.remsi v71 c8_i32
  let c0_i32_20 : BitVec 32 := 0#32
  let v85 : BitVec 1 := Scalar.cmpi .ne v84 c0_i32_20
  let v86 : BitVec 1 := Scalar.andi v83 v85
  let v72 : BitVec 32 := Scalar.divsi v71 c8_i32
  let c1_i32_21 : BitVec 32 := 1#32
  let v87 : BitVec 32 := Scalar.subi v72 c1_i32_21
  let v88 : BitVec 32 := Scalar.select v86 v87 v72
  let v89 : BitVec 32 := Scalar.subi v88 c0_i32_23
  let c1_i32_24 : BitVec 32 := 1#32
  let v91 : BitVec 32 := Scalar.divsi v89 c1_i32_24
  let v92 : BitVec 32 := Scalar.muli v91 c1_i32_24
  let v93 : BitVec 32 := Scalar.addi c0_i32_23 v92
  let c1_i32_26 : BitVec 32 := 1#32
  let arg12 : BitVec 32 := Scf.iv v93 c1_i32_26 k0_t3
  let v259 : BitVec 32 := Scalar.muli c8_i32_85 arg12
  let v260 : BitVec 32 := Scalar.addi v258 v259
  let c0_i32_87_r6 : BitVec 32 := 0#32
  ![v260.toNat, 0]
def k0_off14 (v69 : BitVec 32) : Fin 2 → Nat :=
  let c1_i32_82 : BitVec 32 := 1#32
  let c1_i32_15 : BitVec 32 := 1#32
  let v71 : BitVec 32 := Scalar.subi v69 c1_i32_15
  let v256 : BitVec 32 := Scalar.addi c1_i32_82 v71
  let c8_i32_83 : BitVec 32 := 8#32
  let v257 : BitVec 32 := Scalar.subi v256 c8_i32_83
  let c0_i32_86_r7 : BitVec 32 := 0#32
  ![v257.toNat, 0]
def k0_cond1 (v69 : BitVec 32) : BitVec 1 :=
  let c1_i32_15 : BitVec 32 := 1#32
  let v71 : BitVec 32 := Scalar.subi v69 c1_i32_15
  let c0_i32_16 : BitVec 32 := 0#32
  let v73 : BitVec 1 := Scalar.cmpi .sgt v71 c0_i32_16
  let v74 : BitVec 32 := Scalar.extui v73
  let c0_i32_17 : BitVec 32 := 0#32
  let v75 : BitVec 1 := Scalar.cmpi .slt v71 c0_i32_17
  let v76 : BitVec 32 := Scalar.extui v75
  let v77 : BitVec 32 := Scalar.subi v74 v76
  let c8_i32 : BitVec 32 := 8#32
  let c0_i32_18 : BitVec 32 := 0#32
  let v78 : BitVec 1 := Scalar.cmpi .sgt c8_i32 c0_i32_18
  let v79 : BitVec 32 := Scalar.extui v78
  let c0_i32_19 : BitVec 32 := 0#32
  let v80 : BitVec 1 := Scalar.cmpi .slt c8_i32 c0_i32_19
  let v81 : BitVec 32 := Scalar.extui v80
  let v82 : BitVec 32 := Scalar.subi v79 v81
  let v83 : BitVec 1 := Scalar.cmpi .ne v77 v82
  let v84 : BitVec 32 := Scalar.remsi v71 c8_i32
  let c0_i32_20 : BitVec 32 := 0#32
  let v85 : BitVec 1 := Scalar.cmpi .ne v84 c0_i32_20
  let v86 : BitVec 1 := Scalar.andi v83 v85
  let v72 : BitVec 32 := Scalar.divsi v71 c8_i32
  let c1_i32_21 : BitVec 32 := 1#32
  let v87 : BitVec 32 := Scalar.subi v72 c1_i32_21
  let v88 : BitVec 32 := Scalar.select v86 v87 v72
  let c8_i32_27 : BitVec 32 := 8#32
  let v94 : BitVec 32 := Scalar.muli v88 c8_i32_27
  let v95 : BitVec 1 := Scalar.cmpi .sgt v71 v94
  let c8_i32_28 : BitVec 32 := 8#32
  let v96 : BitVec 1 := Scalar.cmpi .sge v71 c8_i32_28
  let v97 : BitVec 1 := Scalar.andi v95 v96
  let v98 : BitVec 32 := Scalar.extui v97
  let c0_i32_29 : BitVec 32 := 0#32
  let v99 : BitVec 1 := Scalar.cmpi .ne v98 c0_i32_29
  v99

def k0_off15 (i : grid0.Coords) (k0_t1 : Fin k0_t1_loop.trips) (v69 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32_3 : BitVec 32 := 32#32
  let v5 : BitVec 32 := Scalar.muli v1 c32_i32_3
  let c0_i32_0 : BitVec 32 := 0#32
  let c1_i32 : BitVec 32 := 1#32
  let arg11 : BitVec 32 := Scf.iv c0_i32_0 c1_i32 k0_t1
  let v6 : BitVec 32 := Scalar.addi v5 arg11
  let c77_i32 : BitVec 32 := 77#32
  let v7 : BitVec 32 := Scalar.muli v6 c77_i32
  let c9_i32_84 : BitVec 32 := 9#32
  let v258 : BitVec 32 := Scalar.addi v7 c9_i32_84
  let c1_i32_15 : BitVec 32 := 1#32
  let v71 : BitVec 32 := Scalar.subi v69 c1_i32_15
  let v259 : BitVec 32 := Scalar.addi v258 v71
  let c8_i32_85 : BitVec 32 := 8#32
  let v260 : BitVec 32 := Scalar.subi v259 c8_i32_85
  let c0_i32_87_r7 : BitVec 32 := 0#32
  ![v260.toNat, 0]
def k0_off16 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32_3 : BitVec 32 := 32#32
  let v5 : BitVec 32 := Scalar.muli v1 c32_i32_3
  let c0_i32_0 : BitVec 32 := 0#32
  let c1_i32 : BitVec 32 := 1#32
  let arg11 : BitVec 32 := Scf.iv c0_i32_0 c1_i32 k0_t1
  let v6 : BitVec 32 := Scalar.addi v5 arg11
  let c77_i32 : BitVec 32 := 77#32
  let v7 : BitVec 32 := Scalar.muli v6 c77_i32
  let c9_i32_82 : BitVec 32 := 9#32
  let v256 : BitVec 32 := Scalar.addi v7 c9_i32_82
  let c0_i32_88_r8 : BitVec 32 := 0#32
  ![v256.toNat, 0]
def k0_off17 (v69 : BitVec 32) : Fin 2 → Nat :=
  let c1_i32_83 : BitVec 32 := 1#32
  let c1_i32_15 : BitVec 32 := 1#32
  let v71 : BitVec 32 := Scalar.subi v69 c1_i32_15
  let v257 : BitVec 32 := Scalar.addi c1_i32_83 v71
  let c4_i32 : BitVec 32 := 4#32
  let v258 : BitVec 32 := Scalar.subi v257 c4_i32
  let c0_i32_86_r9 : BitVec 32 := 0#32
  ![v258.toNat, 0]
def k0_cond2 (v69 : BitVec 32) : BitVec 1 :=
  let c1_i32_15 : BitVec 32 := 1#32
  let v71 : BitVec 32 := Scalar.subi v69 c1_i32_15
  let c8_i32_30 : BitVec 32 := 8#32
  let v100 : BitVec 1 := Scalar.cmpi .slt v71 c8_i32_30
  let v101 : BitVec 32 := Scalar.extui v100
  let c0_i32_31 : BitVec 32 := 0#32
  let v102 : BitVec 1 := Scalar.cmpi .ne v101 c0_i32_31
  v102

def k0_off18 (i : grid0.Coords) (k0_t1 : Fin k0_t1_loop.trips) (v69 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32_3 : BitVec 32 := 32#32
  let v5 : BitVec 32 := Scalar.muli v1 c32_i32_3
  let c0_i32_0 : BitVec 32 := 0#32
  let c1_i32 : BitVec 32 := 1#32
  let arg11 : BitVec 32 := Scf.iv c0_i32_0 c1_i32 k0_t1
  let v6 : BitVec 32 := Scalar.addi v5 arg11
  let c77_i32 : BitVec 32 := 77#32
  let v7 : BitVec 32 := Scalar.muli v6 c77_i32
  let c9_i32_84 : BitVec 32 := 9#32
  let v259 : BitVec 32 := Scalar.addi v7 c9_i32_84
  let c1_i32_15 : BitVec 32 := 1#32
  let v71 : BitVec 32 := Scalar.subi v69 c1_i32_15
  let v260 : BitVec 32 := Scalar.addi v259 v71
  let c4_i32_85 : BitVec 32 := 4#32
  let v261 : BitVec 32 := Scalar.subi v260 c4_i32_85
  let c0_i32_87_r9 : BitVec 32 := 0#32
  ![v261.toNat, 0]
def k0_off19 (v69 : BitVec 32) : Fin 2 → Nat :=
  let c0_i32_82_r10 : BitVec 32 := 0#32
  ![v69.toNat, 0]
def k0_off20 (i : grid0.Coords) (k0_t1 : Fin k0_t1_loop.trips) (v69 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32_3 : BitVec 32 := 32#32
  let v5 : BitVec 32 := Scalar.muli v1 c32_i32_3
  let c0_i32_0 : BitVec 32 := 0#32
  let c1_i32 : BitVec 32 := 1#32
  let arg11 : BitVec 32 := Scf.iv c0_i32_0 c1_i32 k0_t1
  let v6 : BitVec 32 := Scalar.addi v5 arg11
  let c77_i32 : BitVec 32 := 77#32
  let v7 : BitVec 32 := Scalar.muli v6 c77_i32
  let c8_i32_32 : BitVec 32 := 8#32
  let v103 : BitVec 32 := Scalar.addi v7 c8_i32_32
  let c8_i32_33 : BitVec 32 := 8#32
  let v104 : BitVec 32 := Scalar.addi v103 c8_i32_33
  let v105 : BitVec 32 := Scalar.addi v104 v69
  let c0_i32_83_r10 : BitVec 32 := 0#32
  ![v105.toNat, 0]

def k0_chk1 (i : grid0.Coords) (k0_t1 : Fin k0_t1_loop.trips) (v69 : BitVec 32) : Prop :=
  ((k0_t2_loop v69).OK) ∧
  (∀ k0_t2 : Fin (k0_t2_loop v69).trips, ∀ a, (k0_off10 v69 k0_t2) a + S8x512.size a ≤ S60x512.size a) ∧
  (∀ k0_t2 : Fin (k0_t2_loop v69).trips, ∀ a, (k0_off11 i k0_t1 v69 k0_t2) a + S8x512.size a ≤ S78848x512.size a) ∧
  ((k0_t3_loop v69).OK) ∧
  (∀ k0_t3 : Fin (k0_t3_loop v69).trips, ∀ a, (k0_off12 v69 k0_t3) a + S8x512.size a ≤ S60x512.size a) ∧
  (∀ k0_t3 : Fin (k0_t3_loop v69).trips, ∀ a, (k0_off13 i k0_t1 v69 k0_t3) a + S8x512.size a ≤ S78848x512.size a) ∧
  (∀ (k0_h1 : k0_cond1 v69 = 1#1), ∀ a, (k0_off14 v69) a + S8x512.size a ≤ S60x512.size a) ∧
  (∀ (k0_h1 : k0_cond1 v69 = 1#1), ∀ a, (k0_off15 i k0_t1 v69) a + S8x512.size a ≤ S78848x512.size a) ∧
  (∀ (k0_h2 : k0_cond2 v69 = 1#1), ∀ a, (k0_off17 v69) a + S4x512.size a ≤ S60x512.size a) ∧
  (∀ (k0_h2 : k0_cond2 v69 = 1#1), ∀ a, (k0_off18 i k0_t1 v69) a + S4x512.size a ≤ S78848x512.size a) ∧
  (∀ a, (k0_off19 v69) a + S1x512.size a ≤ S60x512.size a) ∧
  (∀ a, (k0_off20 i k0_t1 v69) a + S1x512.size a ≤ S78848x512.size a)
theorem k0_t2_ok : ∀ (i : grid0.Coords) (k0_t1 : Fin k0_t1_loop.trips) (v69 : BitVec 32) (k0_hw1 : k0_chk1 i k0_t1 v69), (k0_t2_loop v69).OK := fun i k0_t1 v69 k0_hw1 => k0_hw1.1
theorem k0_off10_inb : ∀ (i : grid0.Coords) (k0_t1 : Fin k0_t1_loop.trips) (v69 : BitVec 32) (k0_hw1 : k0_chk1 i k0_t1 v69) (k0_t2 : Fin (k0_t2_loop v69).trips), ∀ a, (k0_off10 v69 k0_t2) a + S8x512.size a ≤ S60x512.size a := fun i k0_t1 v69 k0_hw1 k0_t2 => k0_hw1.2.1 k0_t2
theorem k0_off11_inb : ∀ (i : grid0.Coords) (k0_t1 : Fin k0_t1_loop.trips) (v69 : BitVec 32) (k0_hw1 : k0_chk1 i k0_t1 v69) (k0_t2 : Fin (k0_t2_loop v69).trips), ∀ a, (k0_off11 i k0_t1 v69 k0_t2) a + S8x512.size a ≤ S78848x512.size a := fun i k0_t1 v69 k0_hw1 k0_t2 => k0_hw1.2.2.1 k0_t2
theorem k0_t3_ok : ∀ (i : grid0.Coords) (k0_t1 : Fin k0_t1_loop.trips) (v69 : BitVec 32) (k0_hw1 : k0_chk1 i k0_t1 v69), (k0_t3_loop v69).OK := fun i k0_t1 v69 k0_hw1 => k0_hw1.2.2.2.1
theorem k0_off12_inb : ∀ (i : grid0.Coords) (k0_t1 : Fin k0_t1_loop.trips) (v69 : BitVec 32) (k0_hw1 : k0_chk1 i k0_t1 v69) (k0_t3 : Fin (k0_t3_loop v69).trips), ∀ a, (k0_off12 v69 k0_t3) a + S8x512.size a ≤ S60x512.size a := fun i k0_t1 v69 k0_hw1 k0_t3 => k0_hw1.2.2.2.2.1 k0_t3
theorem k0_off13_inb : ∀ (i : grid0.Coords) (k0_t1 : Fin k0_t1_loop.trips) (v69 : BitVec 32) (k0_hw1 : k0_chk1 i k0_t1 v69) (k0_t3 : Fin (k0_t3_loop v69).trips), ∀ a, (k0_off13 i k0_t1 v69 k0_t3) a + S8x512.size a ≤ S78848x512.size a := fun i k0_t1 v69 k0_hw1 k0_t3 => k0_hw1.2.2.2.2.2.1 k0_t3
theorem k0_off14_inb : ∀ (i : grid0.Coords) (k0_t1 : Fin k0_t1_loop.trips) (v69 : BitVec 32) (k0_hw1 : k0_chk1 i k0_t1 v69), ∀ (k0_h1 : k0_cond1 v69 = 1#1), ∀ a, (k0_off14 v69) a + S8x512.size a ≤ S60x512.size a := fun i k0_t1 v69 k0_hw1 k0_h1 => k0_hw1.2.2.2.2.2.2.1 k0_h1
theorem k0_off15_inb : ∀ (i : grid0.Coords) (k0_t1 : Fin k0_t1_loop.trips) (v69 : BitVec 32) (k0_hw1 : k0_chk1 i k0_t1 v69), ∀ (k0_h1 : k0_cond1 v69 = 1#1), ∀ a, (k0_off15 i k0_t1 v69) a + S8x512.size a ≤ S78848x512.size a := fun i k0_t1 v69 k0_hw1 k0_h1 => k0_hw1.2.2.2.2.2.2.2.1 k0_h1
theorem k0_off17_inb : ∀ (i : grid0.Coords) (k0_t1 : Fin k0_t1_loop.trips) (v69 : BitVec 32) (k0_hw1 : k0_chk1 i k0_t1 v69), ∀ (k0_h2 : k0_cond2 v69 = 1#1), ∀ a, (k0_off17 v69) a + S4x512.size a ≤ S60x512.size a := fun i k0_t1 v69 k0_hw1 k0_h2 => k0_hw1.2.2.2.2.2.2.2.2.1 k0_h2
theorem k0_off18_inb : ∀ (i : grid0.Coords) (k0_t1 : Fin k0_t1_loop.trips) (v69 : BitVec 32) (k0_hw1 : k0_chk1 i k0_t1 v69), ∀ (k0_h2 : k0_cond2 v69 = 1#1), ∀ a, (k0_off18 i k0_t1 v69) a + S4x512.size a ≤ S78848x512.size a := fun i k0_t1 v69 k0_hw1 k0_h2 => k0_hw1.2.2.2.2.2.2.2.2.2.1 k0_h2
theorem k0_off19_inb : ∀ (i : grid0.Coords) (k0_t1 : Fin k0_t1_loop.trips) (v69 : BitVec 32) (k0_hw1 : k0_chk1 i k0_t1 v69), ∀ a, (k0_off19 v69) a + S1x512.size a ≤ S60x512.size a := fun i k0_t1 v69 k0_hw1 => k0_hw1.2.2.2.2.2.2.2.2.2.2.1
theorem k0_off20_inb : ∀ (i : grid0.Coords) (k0_t1 : Fin k0_t1_loop.trips) (v69 : BitVec 32) (k0_hw1 : k0_chk1 i k0_t1 v69), ∀ a, (k0_off20 i k0_t1 v69) a + S1x512.size a ≤ S78848x512.size a := fun i k0_t1 v69 k0_hw1 => k0_hw1.2.2.2.2.2.2.2.2.2.2.2

def k0_chk2 (v126 : IVec S16 32) (v129 : IVec S16 32) : Prop :=
  (∀ a x, ((![v129, v126] : Fin 2 → IVec S16 32) a x).toNat < S32x77.size a)
theorem k0_idx1_inb : ∀ (v126 : IVec S16 32) (v129 : IVec S16 32) (k0_hw2 : k0_chk2 v126 v129), ∀ a x, ((![v129, v126] : Fin 2 → IVec S16 32) a x).toNat < S32x77.size a := fun v126 v129 k0_hw2 => k0_hw2
def k0_off21 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let v134 : Index := Scalar.indexCast arg11
  let c0_41 : Index := 0#32
  ![v134.toNat, 0]

def k0_chk3 (v156 : IVec S16 32) (v159 : IVec S16 32) : Prop :=
  (∀ a x, ((![v159, v156] : Fin 2 → IVec S16 32) a x).toNat < S32x77.size a)
theorem k0_idx2_inb : ∀ (v156 : IVec S16 32) (v159 : IVec S16 32) (k0_hw3 : k0_chk3 v156 v159), ∀ a x, ((![v159, v156] : Fin 2 → IVec S16 32) a x).toNat < S32x77.size a := fun v156 v159 k0_hw3 => k0_hw3
def k0_off22 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let v164 : Index := Scalar.indexCast arg11
  let c16_51 : Index := 16#32
  ![v164.toNat, 16]

def k0_chk4 (v186 : IVec S16 32) (v189 : IVec S16 32) : Prop :=
  (∀ a x, ((![v189, v186] : Fin 2 → IVec S16 32) a x).toNat < S32x77.size a)
theorem k0_idx3_inb : ∀ (v186 : IVec S16 32) (v189 : IVec S16 32) (k0_hw4 : k0_chk4 v186 v189), ∀ a x, ((![v189, v186] : Fin 2 → IVec S16 32) a x).toNat < S32x77.size a := fun v186 v189 k0_hw4 => k0_hw4
def k0_off23 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let v194 : Index := Scalar.indexCast arg11
  let c32_61 : Index := 32#32
  ![v194.toNat, 32]

def k0_chk5 (v216 : IVec S16 32) (v219 : IVec S16 32) : Prop :=
  (∀ a x, ((![v219, v216] : Fin 2 → IVec S16 32) a x).toNat < S32x77.size a)
theorem k0_idx4_inb : ∀ (v216 : IVec S16 32) (v219 : IVec S16 32) (k0_hw5 : k0_chk5 v216 v219), ∀ a x, ((![v219, v216] : Fin 2 → IVec S16 32) a x).toNat < S32x77.size a := fun v216 v219 k0_hw5 => k0_hw5
def k0_off24 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let v224 : Index := Scalar.indexCast arg11
  let c48_71 : Index := 48#32
  ![v224.toNat, 48]

def k0_chk6 (v246 : IVec S16 32) (v249 : IVec S16 32) : Prop :=
  (∀ a x, ((![v249, v246] : Fin 2 → IVec S16 32) a x).toNat < S32x77.size a)
theorem k0_idx5_inb : ∀ (v246 : IVec S16 32) (v249 : IVec S16 32) (k0_hw6 : k0_chk6 v246 v249), ∀ a x, ((![v249, v246] : Fin 2 → IVec S16 32) a x).toNat < S32x77.size a := fun v246 v249 k0_hw6 => k0_hw6
def k0_off25 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let v254 : Index := Scalar.indexCast arg11
  let c61_81 : Index := 61#32
  ![v254.toNat, 61]
def k0_off26 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_3_r11 : BitVec 32 := 0#32
  let c0_i32_4_r11 : BitVec 32 := 0#32
  ![v1.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x77x512 : Shape := ⟨3, ![1024, 77, 512]⟩
abbrev S1024x77 : Shape := ⟨2, ![1024, 77]⟩
abbrev S77x512 : Shape := ⟨2, ![77, 512]⟩
abbrev S77 : Shape := ⟨1, ![77]⟩
abbrev S_ : Shape := ⟨0, ![]⟩
abbrev S77x1 : Shape := ⟨2, ![77, 1]⟩
abbrev S1 : Shape := ⟨1, ![1]⟩
abbrev S1x1 : Shape := ⟨2, ![1, 1]⟩
abbrev S1024 : Shape := ⟨1, ![1024]⟩
abbrev S1x77 : Shape := ⟨2, ![1, 77]⟩
abbrev S1024x1 : Shape := ⟨2, ![1024, 1]⟩
abbrev S1024x77x1 : Shape := ⟨3, ![1024, 77, 1]⟩
abbrev S1x1x1 : Shape := ⟨3, ![1, 1, 1]⟩

abbrev nBuf : Space → Nat
  | .hbm => 137
  | .vmem => 0
  | .smem => 0
  | _ => 0

abbrev hbmTy0_0 (i : Nat) : BufTy := match i % 128 with
  | 0 => ⟨S1024x77x512, .f32⟩
  | 1 => ⟨S1024x77, .i32⟩
  | 2 => ⟨S77x512, .f32⟩
  | 3 => ⟨S77, .i32⟩
  | 4 => ⟨S_, .i32⟩
  | 5 => ⟨S77, .i32⟩
  | 6 => ⟨S77, .i1⟩
  | 7 => ⟨S_, .i32⟩
  | 8 => ⟨S77, .i32⟩
  | 9 => ⟨S77, .i32⟩
  | 10 => ⟨S77, .i32⟩
  | 11 => ⟨S77x1, .i32⟩
  | 12 => ⟨S1, .i32⟩
  | 13 => ⟨S_, .i32⟩
  | 14 => ⟨S77x1, .i32⟩
  | 15 => ⟨S77x1, .i1⟩
  | 16 => ⟨S1x1, .i32⟩
  | 17 => ⟨S77x1, .i32⟩
  | 18 => ⟨S77x1, .i1⟩
  | 19 => ⟨S77x1, .i1⟩
  | 20 => ⟨S_, .i1⟩
  | 21 => ⟨S77, .i1⟩
  | 22 => ⟨S77x512, .f32⟩
  | 23 => ⟨S77x512, .i1⟩
  | 24 => ⟨S_, .f32⟩
  | 25 => ⟨S77x512, .f32⟩
  | 26 => ⟨S77x512, .f32⟩
  | 27 => ⟨S77, .i32⟩
  | 28 => ⟨S1024x77, .i32⟩
  | 29 => ⟨S_, .i32⟩
  | 30 => ⟨S_, .i32⟩
  | 31 => ⟨S1024, .i32⟩
  | 32 => ⟨S1024, .i32⟩
  | 33 => ⟨S_, .i32⟩
  | 34 => ⟨S77, .i32⟩
  | 35 => ⟨S77, .i1⟩
  | 36 => ⟨S_, .i32⟩
  | 37 => ⟨S77, .i32⟩
  | 38 => ⟨S77, .i1⟩
  | 39 => ⟨S_, .i32⟩
  | 40 => ⟨S1024, .i32⟩
  | 41 => ⟨S1024, .i32⟩
  | 42 => ⟨S1x77, .i32⟩
  | 43 => ⟨S1024x1, .i32⟩
  | 44 => ⟨S1024x77, .i32⟩
  | 45 => ⟨S1024x77, .i32⟩
  | 46 => ⟨S1024x77, .i1⟩
  | 47 => ⟨S1x77, .i1⟩
  | 48 => ⟨S1024x77, .i1⟩
  | 49 => ⟨S1024x77, .i1⟩
  | 50 => ⟨S_, .i32⟩
  | 51 => ⟨S1024, .i32⟩
  | 52 => ⟨S1024, .i32⟩
  | 53 => ⟨S_, .i32⟩
  | 54 => ⟨S1024, .i32⟩
  | 55 => ⟨S1024, .i32⟩
  | 56 => ⟨S1x77, .i32⟩
  | 57 => ⟨S1024x1, .i32⟩
  | 58 => ⟨S1024x77, .i32⟩
  | 59 => ⟨S1024x77, .i32⟩
  | 60 => ⟨S1024x77, .i1⟩
  | 61 => ⟨S_, .i32⟩
  | 62 => ⟨S77, .i32⟩
  | 63 => ⟨S77, .i32⟩
  | 64 => ⟨S_, .i32⟩
  | 65 => ⟨S_, .i32⟩
  | 66 => ⟨S1024x77, .i32⟩
  | 67 => ⟨S77, .i32⟩
  | 68 => ⟨S1024x77, .i32⟩
  | 69 => ⟨S1024x77, .i32⟩
  | 70 => ⟨S1024x77, .i32⟩
  | 71 => ⟨S1024x77, .i32⟩
  | 72 => ⟨S_, .i32⟩
  | 73 => ⟨S_, .i32⟩
  | 74 => ⟨S77, .i32⟩
  | 75 => ⟨S1024x77, .i1⟩
  | 76 => ⟨S1024x77, .i32⟩
  | 77 => ⟨S1024x77, .i32⟩
  | 78 => ⟨S1x77, .i1⟩
  | 79 => ⟨S1024x77, .i1⟩
  | 80 => ⟨S1024x77, .i1⟩
  | 81 => ⟨S1024x77, .i1⟩
  | 82 => ⟨S1024x77x1, .i1⟩
  | 83 => ⟨S_, .i32⟩
  | 84 => ⟨S1024x77, .i32⟩
  | 85 => ⟨S1024x77, .i1⟩
  | 86 => ⟨S_, .i32⟩
  | 87 => ⟨S1024x77, .i32⟩
  | 88 => ⟨S1024x77, .i32⟩
  | 89 => ⟨S1024x77, .i32⟩
  | 90 => ⟨S1024x77x1, .i32⟩
  | 91 => ⟨S1, .i32⟩
  | 92 => ⟨S_, .i32⟩
  | 93 => ⟨S1024x77x1, .i32⟩
  | 94 => ⟨S1024x77x1, .i1⟩
  | 95 => ⟨S1x1x1, .i32⟩
  | 96 => ⟨S1024x77x1, .i32⟩
  | 97 => ⟨S1024x77x1, .i1⟩
  | 98 => ⟨S1024x77x1, .i1⟩
  | 99 => ⟨S_, .i1⟩
  | 100 => ⟨S1024x77, .i1⟩
  | 101 => ⟨S1024x77x512, .f32⟩
  | 102 => ⟨S1024x77x512, .i1⟩
  | 103 => ⟨S_, .f32⟩
  | 104 => ⟨S1024x77x512, .f32⟩
  | 105 => ⟨S1024x77x512, .f32⟩
  | 106 => ⟨S1024x77x512, .i1⟩
  | 107 => ⟨S1024x77x512, .f32⟩
  | 108 => ⟨S1024x77x512, .f32⟩
  | 109 => ⟨S_, .i32⟩
  | 110 => ⟨S1024x77, .i32⟩
  | 111 => ⟨S1024x77, .i1⟩
  | 112 => ⟨S_, .i32⟩
  | 113 => ⟨S1024x77, .i32⟩
  | 114 => ⟨S1024x77, .i32⟩
  | 115 => ⟨S1024x77, .i32⟩
  | 116 => ⟨S1024x77x1, .i32⟩
  | 117 => ⟨S1, .i32⟩
  | 118 => ⟨S_, .i32⟩
  | 119 => ⟨S1024x77x1, .i32⟩
  | 120 => ⟨S1024x77x1, .i1⟩
  | 121 => ⟨S1x1x1, .i32⟩
  | 122 => ⟨S1024x77x1, .i32⟩
  | 123 => ⟨S1024x77x1, .i1⟩
  | 124 => ⟨S1024x77x1, .i1⟩
  | 125 => ⟨S_, .i1⟩
  | 126 => ⟨S1024x77, .i1⟩
  | 127 => ⟨S1024x77, .i32⟩
  | _ => ⟨S1024x77x512, .f32⟩

abbrev hbmTy0_1 (i : Nat) : BufTy := match i % 128 with
  | 0 => ⟨S_, .i32⟩
  | 1 => ⟨S1024x77, .i32⟩
  | 2 => ⟨S1024x77, .i32⟩
  | 3 => ⟨S1024x77, .f32⟩
  | 4 => ⟨S_, .f32⟩
  | 5 => ⟨S_, .f32⟩
  | 6 => ⟨S77, .f32⟩
  | 7 => ⟨S1024x77, .f32⟩
  | 8 => ⟨S1024x77, .f32⟩
  | _ => ⟨S1024x77x512, .f32⟩

abbrev hbmTy (i : Nat) : BufTy := match i / 128 with
  | 0 => hbmTy0_0 i
  | 1 => hbmTy0_1 i
  | _ => ⟨S1024x77x512, .f32⟩

abbrev bufTy : (tb : Table) → Fin (tcTables nBuf tb) → BufTy
  | .hbm, ⟨i, _⟩ => hbmTy i
  | _, _ => ⟨S1024x77x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_v2 : Ref sig .tc := ⟨.hbm, 27, rfl⟩
abbrev main_call1_v0 : Ref sig .tc := ⟨.hbm, 28, rfl⟩
abbrev main_call1_c : Ref sig .tc := ⟨.hbm, 29, rfl⟩
abbrev main_call1_c_0 : Ref sig .tc := ⟨.hbm, 30, rfl⟩
abbrev main_call1_v1_0 : Ref sig .tc := ⟨.hbm, 31, rfl⟩
abbrev main_v3 : Ref sig .tc := ⟨.hbm, 32, rfl⟩
abbrev main_c : Ref sig .tc := ⟨.hbm, 33, rfl⟩
abbrev main_v4 : Ref sig .tc := ⟨.hbm, 34, rfl⟩
abbrev main_v5 : Ref sig .tc := ⟨.hbm, 35, rfl⟩
abbrev main_c_0 : Ref sig .tc := ⟨.hbm, 36, rfl⟩
abbrev main_v6 : Ref sig .tc := ⟨.hbm, 37, rfl⟩
abbrev main_v7 : Ref sig .tc := ⟨.hbm, 38, rfl⟩
abbrev main_c_1 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_c_2 : Ref sig .tc := ⟨.hbm, 50, rfl⟩
abbrev main_v18 : Ref sig .tc := ⟨.hbm, 51, rfl⟩
abbrev main_v19 : Ref sig .tc := ⟨.hbm, 52, rfl⟩
abbrev main_c_3 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_c_4 : Ref sig .tc := ⟨.hbm, 61, rfl⟩
abbrev main_v27 : Ref sig .tc := ⟨.hbm, 62, rfl⟩
abbrev main_v28 : Ref sig .tc := ⟨.hbm, 63, rfl⟩
abbrev main_c_5 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_v29 : Ref sig .tc := ⟨.hbm, 69, rfl⟩
abbrev main_call3_v0 : Ref sig .tc := ⟨.hbm, 70, rfl⟩
abbrev main_v30 : Ref sig .tc := ⟨.hbm, 71, rfl⟩
abbrev main_c_6 : Ref sig .tc := ⟨.hbm, 72, rfl⟩
abbrev main_call4_v0 : Ref sig .tc := ⟨.hbm, 73, rfl⟩
abbrev main_call4_v1 : Ref sig .tc := ⟨.hbm, 74, rfl⟩
abbrev main_call4_v2 : Ref sig .tc := ⟨.hbm, 75, rfl⟩
abbrev main_call4_v3 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_call5_c : Ref sig .tc := ⟨.hbm, 83, rfl⟩
abbrev main_call5_v0 : Ref sig .tc := ⟨.hbm, 84, rfl⟩
abbrev main_call5_v1 : Ref sig .tc := ⟨.hbm, 85, rfl⟩
abbrev main_call5_c_0 : Ref sig .tc := ⟨.hbm, 86, rfl⟩
abbrev main_call5_v2 : Ref sig .tc := ⟨.hbm, 87, rfl⟩
abbrev main_call5_v3 : Ref sig .tc := ⟨.hbm, 88, rfl⟩
abbrev main_call5_v4 : Ref sig .tc := ⟨.hbm, 89, rfl⟩
abbrev main_call5_v5 : Ref sig .tc := ⟨.hbm, 90, rfl⟩
abbrev main_call5_c_1 : Ref sig .tc := ⟨.hbm, 91, rfl⟩
abbrev main_call5_c_2 : Ref sig .tc := ⟨.hbm, 92, rfl⟩
abbrev main_call5_v6 : Ref sig .tc := ⟨.hbm, 93, rfl⟩
abbrev main_call5_v7 : Ref sig .tc := ⟨.hbm, 94, rfl⟩
abbrev main_call5_v8 : Ref sig .tc := ⟨.hbm, 95, rfl⟩
abbrev main_call5_v9 : Ref sig .tc := ⟨.hbm, 96, rfl⟩
abbrev main_call5_v10 : Ref sig .tc := ⟨.hbm, 97, rfl⟩
abbrev main_call5_v11 : Ref sig .tc := ⟨.hbm, 98, rfl⟩
abbrev main_call5_c_3 : Ref sig .tc := ⟨.hbm, 99, rfl⟩
abbrev main_call5_v12 : Ref sig .tc := ⟨.hbm, 100, rfl⟩
abbrev main_call5_v13 : Ref sig .tc := ⟨.hbm, 101, rfl⟩
abbrev main_call5_v14 : Ref sig .tc := ⟨.hbm, 102, rfl⟩
abbrev main_call5_cst : Ref sig .tc := ⟨.hbm, 103, rfl⟩
abbrev main_call5_v15 : Ref sig .tc := ⟨.hbm, 104, rfl⟩
abbrev main_v37 : Ref sig .tc := ⟨.hbm, 105, rfl⟩
abbrev main_call6_v0 : Ref sig .tc := ⟨.hbm, 106, rfl⟩
abbrev main_call6_v1 : Ref sig .tc := ⟨.hbm, 107, rfl⟩
abbrev main_v38 : Ref sig .tc := ⟨.hbm, 108, rfl⟩
abbrev main_call7_c : Ref sig .tc := ⟨.hbm, 109, rfl⟩
abbrev main_call7_v0 : Ref sig .tc := ⟨.hbm, 110, rfl⟩
abbrev main_call7_v1 : Ref sig .tc := ⟨.hbm, 111, rfl⟩
abbrev main_call7_c_0 : Ref sig .tc := ⟨.hbm, 112, rfl⟩
abbrev main_call7_v2 : Ref sig .tc := ⟨.hbm, 113, rfl⟩
abbrev main_call7_v3 : Ref sig .tc := ⟨.hbm, 114, rfl⟩
abbrev main_call7_v4 : Ref sig .tc := ⟨.hbm, 115, rfl⟩
abbrev main_call7_v5 : Ref sig .tc := ⟨.hbm, 116, rfl⟩
abbrev main_call7_c_1 : Ref sig .tc := ⟨.hbm, 117, rfl⟩
abbrev main_call7_c_2 : Ref sig .tc := ⟨.hbm, 118, rfl⟩
abbrev main_call7_v6 : Ref sig .tc := ⟨.hbm, 119, rfl⟩
abbrev main_call7_v7 : Ref sig .tc := ⟨.hbm, 120, rfl⟩
abbrev main_call7_v8 : Ref sig .tc := ⟨.hbm, 121, rfl⟩
abbrev main_call7_v9 : Ref sig .tc := ⟨.hbm, 122, rfl⟩
abbrev main_call7_v10 : Ref sig .tc := ⟨.hbm, 123, rfl⟩
abbrev main_call7_v11 : Ref sig .tc := ⟨.hbm, 124, rfl⟩
abbrev main_call7_c_3 : Ref sig .tc := ⟨.hbm, 125, rfl⟩
abbrev main_call7_v12 : Ref sig .tc := ⟨.hbm, 126, rfl⟩
abbrev main_call7_v13 : Ref sig .tc := ⟨.hbm, 127, rfl⟩
abbrev main_call7_c_4 : Ref sig .tc := ⟨.hbm, 128, rfl⟩
abbrev main_call7_v14 : Ref sig .tc := ⟨.hbm, 129, rfl⟩
abbrev main_v39 : Ref sig .tc := ⟨.hbm, 130, rfl⟩
abbrev main_v40 : Ref sig .tc := ⟨.hbm, 131, rfl⟩
abbrev main_cst : Ref sig .tc := ⟨.hbm, 132, rfl⟩
abbrev main_call8_v0 : Ref sig .tc := ⟨.hbm, 133, rfl⟩
abbrev main_call8_v1 : Ref sig .tc := ⟨.hbm, 134, rfl⟩
abbrev main_call8_v2 : Ref sig .tc := ⟨.hbm, 135, rfl⟩
abbrev main_v41 : Ref sig .tc := ⟨.hbm, 136, rfl⟩

abbrev nD : Nat := 1
abbrev τ : Topo := Topo.v7x

variable {F : FTy → Type} [FloatOps F]
-- ==== Proof.Spec.lean ====
/-
  The kernel's result in plain mathematics.

  A class is one row of 77 token words and one `[77, 512]` block of embedding rows. Its END OF TEXT `e` is the first
  column at which the row's words, read signed, take their largest value. Position `p` of the class's output is OWNED by
  the class — it copies one of the class's own embedding rows — when it is the start (`p = 0`), a middle position
  (`9 ≤ p < 8 + e`, which copies row `p - 8`), or the end (`p = 16 + e`, which copies row `e`); every other position
  copies row `p` of the shared table. The second result holds the token word copied along with an owned position, as a
  float, and zero at every other position.
-/
module

public import proofs.«01_k».proof.Defs
public import Idealize.ShloMosaic.Lib.ValueIdxCore
public import Idealize.ShloMosaic.Lib.ValueIdxCoords

@[expose] public section

noncomputable section

namespace Cert.Proof

open Idealize.ShloMosaic Idealize.ShloMosaic.ValueIdx Cert.KernelIdeal

/-! ## The end of a text -/

/-- `e` is the first column at which the row's words, read signed, are largest. -/
def IsEot (row : Fin 77 → BitVec 32) (e : Fin 77) : Prop :=
  (∀ j, (row j).toInt ≤ (row e).toInt) ∧ ∀ j, j < e → (row j).toInt < (row e).toInt

theorem exists_isEot (row : Fin 77 → BitVec 32) : ∃ e, IsEot row e := by
  classical
  obtain ⟨m, _, hm⟩ := Finset.exists_max_image Finset.univ (fun j => (row j).toInt) ⟨0, Finset.mem_univ _⟩
  let C : Finset (Fin 77) := Finset.univ.filter fun j => (row j).toInt = (row m).toInt
  have hC : C.Nonempty := ⟨m, by simp [C]⟩
  have he := Finset.min'_mem C hC
  have heq : (row (C.min' hC)).toInt = (row m).toInt := by simpa [C] using he
  refine ⟨C.min' hC, fun j => heq ▸ hm j (Finset.mem_univ _), fun j hj => ?_⟩
  rw [heq]
  refine lt_of_le_of_ne (hm j (Finset.mem_univ _)) fun h => ?_
  exact absurd (Finset.min'_le C j (by simp [C, h])) (not_le.2 hj)

theorem IsEot.unique {row : Fin 77 → BitVec 32} {e e' : Fin 77} (h : IsEot row e) (h' : IsEot row e') : e = e' := by
  rcases lt_trichotomy e e' with hl | he | hl
  · exact absurd (h'.2 e hl) (not_lt.2 (h.1 e'))
  · exact he
  · exact absurd (h.2 e' hl) (not_lt.2 (h'.1 e))

/-- The end of the text: the first column of the largest word. -/
def eot (row : Fin 77 → BitVec 32) : Fin 77 := Classical.choose (exists_isEot row)

theorem eot_spec (row : Fin 77 → BitVec 32) : IsEot row (eot row) := Classical.choose_spec (exists_isEot row)

theorem eot_eq {row : Fin 77 → BitVec 32} {e : Fin 77} (h : IsEot row e) : eot row = e := (eot_spec row).unique h

/-! ## Owned positions and the rows they copy -/

/-- Position `p` of a class with end `e` copies one of the class's own rows. -/
def own (e p : ℕ) : Prop := p = 0 ∨ (9 ≤ p ∧ p < 8 + e) ∨ p = 16 + e

instance (e p : ℕ) : Decidable (own e p) := inferInstanceAs (Decidable (_ ∨ _))

/-- The row an owned position copies (zero elsewhere). -/
def pos (e p : ℕ) : ℕ := if p = 0 then 0 else if 9 ≤ p ∧ p < 8 + e then p - 8 else if p = 16 + e then e else 0

theorem pos_lt {e p : ℕ} (he : e < 77) (hp : p < 77) : pos e p < 77 := by
  unfold pos; split_ifs <;> omega

theorem pos_lt60 {e p : ℕ} (he : e < 60) : pos e p < 60 := by
  unfold pos; split_ifs <;> omega

/-- The token row of class `n`. -/
def tokRow (tok : S1024x77.Idx → BitVec 32) (n : Fin 1024) : Fin 77 → BitVec 32 := fun j => tok (ix2 n j)

/-- The end of class `n`'s text. -/
def eotAt (tok : S1024x77.Idx → BitVec 32) (n : Fin 1024) : Fin 77 := eot (tokRow tok n)

/-- Every class's text ends in columns 5 to 59: what `eot_in_range` says. -/
def InRange (tok : S1024x77.Idx → BitVec 32) : Prop := ∀ n, 5 ≤ (eotAt tok n).val ∧ (eotAt tok n).val < 60

section
variable {F : FTy → Type} [FloatOps F]

/-- Row `p` of class `n`'s output, at column `c`. -/
def cellE (emb : S78848x512.Idx → F .f32) (tok : S1024x77.Idx → BitVec 32) (tab : S77x512.Idx → F .f32)
    (n : Fin 1024) (p : Fin 77) (c : Fin 512) : F .f32 :=
  if own (eotAt tok n) p then
    emb (ix2 ⟨77 * n.val + pos (eotAt tok n) p, by have := pos_lt (eotAt tok n).isLt p.isLt; have := n.isLt; omega⟩ c)
  else tab (ix2 p c)

/-- The second result at position `p` of class `n`. -/
def cellT (tok : S1024x77.Idx → BitVec 32) (n : Fin 1024) (p : Fin 77) : F .f32 :=
  if own (eotAt tok n) p then
    FloatOps.sitofp .f32 (tok (ix2 n ⟨pos (eotAt tok n) p, pos_lt (eotAt tok n).isLt p.isLt⟩))
  else Scalar.ofBits .f32 0x00000000#32

/-- The first result, its classes one after another. -/
def expE (emb : S78848x512.Idx → F .f32) (tok : S1024x77.Idx → BitVec 32) (tab : S77x512.Idx → F .f32) :
    S78848x512.Idx → F .f32 := fun y =>
  cellE emb tok tab ⟨(y 0).val / 77, by have : (y 0).val < 78848 := (y 0).isLt; omega⟩ ⟨(y 0).val % 77, by omega⟩ (y 1)

/-- The second result, 32 classes to a plane. -/
def expT (tok : S1024x77.Idx → BitVec 32) : S32x32x77.Idx → F .f32 := fun y =>
  cellT tok ⟨32 * (y 0).val + (y 1).val, by
    have : (y 0).val < 32 := (y 0).isLt; have : (y 1).val < 32 := (y 1).isLt; omega⟩ (y 2)

end

end Cert.Proof
-- ==== Proof.Words.lean ====
/-
  The words one subcore computes: the end of a text by two scans over five sixteen-word slabs, and, for each slab, the
  column its lanes gather and the float it stores.

  Both halves are stated on words first. The end of the text is read off through bounds: a running maximum is at most `z`
  just when every word it has taken is, and a running minimum is at least `z` just when every word it has taken is; no
  case is made on where the maximum lies. A slab's payloads are, lane by lane, one function `slotW` of the lane's position
  and the end (and `slotF` for the stored float), whichever slab it is.
-/
module

public import proofs.«01_k».proof.Proof.Spec
public import proofs.«01_k».proof.Proof.Gen.KernelIdeal
public import proofs.«01_k».proof.Proof.Gen.KernelIdeal.Skeleton
public import Idealize.ShloMosaic.Lib.WordCmp
public import Idealize.ShloMosaic.Lib.SortNet.Words
public import Idealize.ShloMosaic.Lib.Pipeline.Value

@[expose] public section

noncomputable section

namespace Cert.Proof

open Idealize.ShloMosaic Idealize.ShloMosaic.ValueIdx Idealize.ShloMosaic.WordCmp Cert.KernelIdeal Cert.KernelIdeal.Gen

/-! ## Bounds of scans -/

theorem foldl_maxui_le {ι : Type} (l : List ι) (f : ι → BitVec 32) (r : BitVec 32) (z : ℕ) :
    (l.foldl (fun r k => IntOp.maxui r (f k)) r).toNat ≤ z ↔ r.toNat ≤ z ∧ ∀ k ∈ l, (f k).toNat ≤ z := by
  induction l generalizing r with
  | nil => simp
  | cons a l ih =>
    have : (IntOp.maxui r (f a)).toNat ≤ z ↔ r.toNat ≤ z ∧ (f a).toNat ≤ z := by
      simp only [IntOp.maxui, BitVec.ult, decide_eq_true_eq]
      split_ifs <;> omega
    simp only [List.foldl_cons, ih, this, List.mem_cons, forall_eq_or_imp, and_assoc]

theorem le_foldl_minui {ι : Type} (l : List ι) (f : ι → BitVec 32) (r : BitVec 32) (z : ℕ) :
    z ≤ (l.foldl (fun r k => IntOp.minui r (f k)) r).toNat ↔ z ≤ r.toNat ∧ ∀ k ∈ l, z ≤ (f k).toNat := by
  induction l generalizing r with
  | nil => simp
  | cons a l ih =>
    have : z ≤ (IntOp.minui r (f a)).toNat ↔ z ≤ r.toNat ∧ z ≤ (f a).toNat := by
      simp only [IntOp.minui, BitVec.ult, decide_eq_true_eq]
      split_ifs <;> omega
    simp only [List.foldl_cons, ih, this, List.mem_cons, forall_eq_or_imp, and_assoc]

/-- A lane of a sixteen-word register. -/
abbrev ln (k : Fin 16) : S16.Idx := Shape.ofLane (d := ![16]) k

@[simp] theorem ln_zero (k : Fin 16) : (ln k 0 : Fin 16) = k := rfl

theorem eq_ln (i : S16.Idx) : i = ln (i 0) := by
  funext a; obtain rfl := Fin.eq_zero a; rfl

theorem mem_prefix (k : Fin 16) (hk : k.val ≠ 0) :
    k ∈ (List.finRange 16).filter fun k => decide (0 < k.val ∧ k.val ≤ 15) := by
  have := k.isLt
  exact List.mem_filter.2 ⟨List.mem_finRange _, by simp only [decide_eq_true_eq]; omega⟩

theorem scan_last (kind : ScanKind) (v : IVec S16 32) : scan kind v (ln 15)
    = ((List.finRange 16).filter fun k => decide (0 < k.val ∧ k.val ≤ 15)).foldl (fun r k => kind.step r (v (ln k))) (v (ln 0)) :=
  rfl

theorem scan_max_le (v : IVec S16 32) (z : ℕ) :
    (scan .max v (ln 15)).toNat ≤ z ↔ ∀ k, (v (ln k)).toNat ≤ z := by
  rw [scan_last]
  refine (foldl_maxui_le _ (fun k : Fin 16 => v (ln k)) _ z).trans
    (Iff.intro (fun h k => ?_) fun h => ⟨h _, fun k _ => h k⟩)
  by_cases hk : k.val = 0
  · obtain rfl : k = 0 := Fin.ext hk
    exact h.1
  · exact h.2 k (mem_prefix k hk)

theorem le_scan_min (v : IVec S16 32) (z : ℕ) :
    z ≤ (scan .min v (ln 15)).toNat ↔ ∀ k, z ≤ (v (ln k)).toNat := by
  rw [scan_last]
  refine (le_foldl_minui _ (fun k : Fin 16 => v (ln k)) _ z).trans
    (Iff.intro (fun h k => ?_) fun h => ⟨h _, fun k _ => h k⟩)
  by_cases hk : k.val = 0
  · obtain rfl : k = 0 := Fin.ext hk
    exact h.1
  · exact h.2 k (mem_prefix k hk)

/-- Flipping the sign bit turns the signed reading into the unsigned one, `2 ^ 31` higher. -/
theorem toNat_flip (x : BitVec 32) : ((IntOp.xori x 2147483648#32).toNat : ℤ) = x.toInt + 2147483648 := by
  have e : (IntOp.xori x 2147483648#32).toNat = x.toNat ^^^ 2 ^ 31 := by
    simp [IntOp.xori, BitVec.toNat_xor]
  have := SortNet.xor_two_pow_top (q := 31) x.toNat x.isLt
  have := x.isLt
  rw [e, BitVec.toInt_eq_toNat_cond]
  split_ifs at * <;> omega

theorem toInt_flip (x : BitVec 32) : (IntOp.xori x 2147483648#32).toInt = (x.toNat : ℤ) - 2147483648 := by
  have h := toNat_flip (IntOp.xori x 2147483648#32)
  have e : IntOp.xori (IntOp.xori x 2147483648#32) 2147483648#32 = x := by
    unfold IntOp.xori; rw [BitVec.xor_assoc, BitVec.xor_self, BitVec.xor_zero]
  rw [e] at h; omega

/-- The signed maximum of a register, as the kernel takes it. -/
theorem scanMax_le (v : IVec S16 32) (z : ℤ) :
    (xori (scan .max (xori v (broadcast S16 2147483648#32))) (broadcast S16 2147483648#32) (ln 15)).toInt ≤ z
      ↔ ∀ k, (v (ln k)).toInt ≤ z := by
  have h := scan_max_le (xori v (broadcast S16 2147483648#32)) (z + 2147483648).toNat
  have e1 : ∀ k, ((xori v (broadcast S16 2147483648#32) (ln k)).toNat : ℤ) = (v (ln k)).toInt + 2147483648 :=
    fun k => toNat_flip _
  have e2 := toInt_flip (scan .max (xori v (broadcast S16 2147483648#32)) (ln 15))
  have hlow : ∀ x : BitVec 32, -2147483648 ≤ x.toInt := fun x => by
    have := BitVec.two_mul_toInt_lt (x := x); have := BitVec.le_two_mul_toInt (x := x); omega
  by_cases hz : -2147483648 ≤ z
  · change (IntOp.xori _ _).toInt ≤ z ↔ _
    rw [show broadcast S16 2147483648#32 (ln 15) = 2147483648#32 from rfl, e2]
    refine Iff.trans (by omega) (h.trans (forall_congr' fun k => ?_))
    have := e1 k
    omega
  · exact ⟨fun h => absurd (le_trans (hlow _) h) (by omega), fun h => absurd (hlow (v (ln 0))) (by have := h (0 : Fin 16); omega)⟩

theorem le_scanMin (v : IVec S16 32) (z : ℤ) :
    z ≤ (xori (scan .min (xori v (broadcast S16 2147483648#32))) (broadcast S16 2147483648#32) (ln 15)).toInt
      ↔ ∀ k, z ≤ (v (ln k)).toInt := by
  have h := le_scan_min (xori v (broadcast S16 2147483648#32)) (z + 2147483648).toNat
  have e1 : ∀ k, ((xori v (broadcast S16 2147483648#32) (ln k)).toNat : ℤ) = (v (ln k)).toInt + 2147483648 :=
    fun k => toNat_flip _
  have e2 := toInt_flip (scan .min (xori v (broadcast S16 2147483648#32)) (ln 15))
  change z ≤ (IntOp.xori _ _).toInt ↔ _
  rw [show broadcast S16 2147483648#32 (ln 15) = 2147483648#32 from rfl, e2]
  refine Iff.trans (by omega) (h.trans (forall_congr' fun k => ?_))
  have := e1 k
  omega

/-! ## The end of the text -/

theorem drop_apply {α : Type} (v : S1x16.Idx → α) (k : Fin 16) :
    shapeCast S16 v shapeCasts_S1x16_S16 (ln k) = v (ix2 0 k) := by
  refine (shapeCast_dropUnit_apply ![16] v shapeCasts_S1x16_S16 (ln k)).trans (congrArg v ?_)
  funext a; fin_cases a <;> rfl

theorem maxsi_le (x y : BitVec 32) (z : ℤ) : (IntOp.maxsi x y).toInt ≤ z ↔ x.toInt ≤ z ∧ y.toInt ≤ z := by
  simp only [IntOp.maxsi, BitVec.slt, decide_eq_true_eq]
  split_ifs <;> omega

theorem le_minsi (x y : BitVec 32) (z : ℤ) : z ≤ (IntOp.minsi x y).toInt ↔ z ≤ x.toInt ∧ z ≤ y.toInt := by
  simp only [IntOp.minsi, BitVec.slt, decide_eq_true_eq]
  split_ifs <;> omega

/-- A lane's candidate: its column where its word is `g`, and 127 elsewhere. -/
theorem le_candidate (s g : BitVec 32) (o : ℕ) (ho : o < 62) (k : Fin 16) (z : ℤ) (hz : z ≤ 127) :
    z ≤ (Scalar.select (IntOp.cmpi .eq s g) (IntOp.addi (BitVec.ofNat 32 k) (BitVec.ofNat 32 o)) (127#32)).toInt
      ↔ (s = g → z ≤ ((o + k.val : ℕ) : ℤ)) := by
  have e : (IntOp.addi (BitVec.ofNat 32 k) (BitVec.ofNat 32 o)).toInt = ((o + k.val : ℕ) : ℤ) := by
    rw [IntOp.addi, ← BitVec.ofNat_add, toInt_ofNat_of_lt (by omega), Nat.add_comm]
  have e' : (127#32).toInt = 127 := by decide
  rw [cmpi_eq_eq]
  by_cases h : s = g
  · simp [Scalar.select, h, e]
  · simp [Scalar.select, h, e', hz]

section
variable {F : FTy → Type} [FloatOps F]

/-- The lane sequence `0 … 15` the kernel keeps. -/
abbrev lanes : IVec S16 32 := iota .scVector S16 32 [0] iota_S16_d0_w32_scVector

theorem lanes_apply (k : Fin 16) : lanes (ln k) = BitVec.ofNat 32 k.val := by
  simp [iota]

variable (v9 v11 v13 v15 v17 : Vec F S1x16 .i32)

/-- The kernel's largest word. -/
abbrev topWord : BitVec 32 := extractAt ![15] (k0_pay8 v9 v11 v13 v15 v17) inpos_S16_p15

/-- The kernel's end of the text. -/
abbrev endWord : BitVec 32 :=
  extractAt ![15] (k0_pay11 lanes (k0_pay6 v15) (k0_pay7 v17) (topWord v9 v11 v13 v15 v17)
    (k0_pay9 lanes v9 v11 v13 v15 v17) (k0_pay10 v9 v11 v13 v15 v17)) inpos_S16_p15

theorem ln15 : (fun a => (⟨(![15] : Fin 1 → ℕ) a, inpos_S16_p15 a⟩ : Fin (S16.size a))) = ln 15 := by
  funext a; obtain rfl := Fin.eq_zero a; rfl

theorem topWord_le (z : ℤ) : (topWord v9 v11 v13 v15 v17).toInt ≤ z ↔
    ∀ k : Fin 16, (v9 (ix2 0 k)).toInt ≤ z ∧ (v11 (ix2 0 k)).toInt ≤ z ∧ (v13 (ix2 0 k)).toInt ≤ z
      ∧ (v15 (ix2 0 k)).toInt ≤ z ∧ (v17 (ix2 0 k)).toInt ≤ z := by
  unfold topWord extractAt
  rw [ln15]
  refine (scanMax_le _ z).trans (forall_congr' fun k => ?_)
  simp only [maxsi, maxsi_le, k0_pay3, k0_pay4, k0_pay5, k0_pay6, k0_pay7, drop_apply]
  tauto

theorem le_endWord (z : ℤ) (hz : z ≤ 127) : z ≤ (endWord v9 v11 v13 v15 v17).toInt ↔
    ∀ k : Fin 16, (v9 (ix2 0 k) = topWord v9 v11 v13 v15 v17 → z ≤ ((0 + k.val : ℕ) : ℤ))
      ∧ (v11 (ix2 0 k) = topWord v9 v11 v13 v15 v17 → z ≤ ((16 + k.val : ℕ) : ℤ))
      ∧ (v13 (ix2 0 k) = topWord v9 v11 v13 v15 v17 → z ≤ ((32 + k.val : ℕ) : ℤ))
      ∧ (v15 (ix2 0 k) = topWord v9 v11 v13 v15 v17 → z ≤ ((48 + k.val : ℕ) : ℤ))
      ∧ (v17 (ix2 0 k) = topWord v9 v11 v13 v15 v17 → z ≤ ((61 + k.val : ℕ) : ℤ)) := by
  generalize hg : topWord v9 v11 v13 v15 v17 = g
  unfold endWord extractAt
  rw [ln15, hg]
  refine (le_scanMin _ z).trans (forall_congr' fun k => ?_)
  unfold k0_pay9 k0_pay10
  simp only [show extractAt ![15] (k0_pay8 v9 v11 v13 v15 v17) inpos_S16_p15 = g from hg]
  simp only [minsi, le_minsi, select_at, cmpi_at, broadcast_at, k0_pay3, k0_pay4, k0_pay5, k0_pay6, k0_pay7,
    drop_apply, addi, lanes_apply]
  rw [le_candidate _ _ 0 (by omega) _ _ hz, le_candidate _ _ 16 (by omega) _ _ hz, le_candidate _ _ 32 (by omega) _ _ hz,
    le_candidate _ _ 48 (by omega) _ _ hz, le_candidate _ _ 61 (by omega) _ _ hz]
  have e' : (127#32).toInt = 127 := by decide
  simp only [e', hz, true_and, and_assoc]

theorem endWord_eq (row : Fin 77 → BitVec 32)
    (h9 : ∀ k : Fin 16, v9 (ix2 0 k) = row ⟨k.val, by omega⟩)
    (h11 : ∀ k : Fin 16, v11 (ix2 0 k) = row ⟨16 + k.val, by omega⟩)
    (h13 : ∀ k : Fin 16, v13 (ix2 0 k) = row ⟨32 + k.val, by omega⟩)
    (h15 : ∀ k : Fin 16, v15 (ix2 0 k) = row ⟨48 + k.val, by omega⟩)
    (h17 : ∀ k : Fin 16, v17 (ix2 0 k) = row ⟨61 + k.val, by omega⟩) :
    endWord v9 v11 v13 v15 v17 = BitVec.ofNat 32 (eot row).val := by
  have all : ∀ P : Fin 77 → Prop, (∀ k : Fin 16, P ⟨k.val, by omega⟩ ∧ P ⟨16 + k.val, by omega⟩ ∧ P ⟨32 + k.val, by omega⟩
      ∧ P ⟨48 + k.val, by omega⟩ ∧ P ⟨61 + k.val, by omega⟩) ↔ ∀ p, P p := fun P => by
    refine Iff.intro (fun h p => ?_) fun h k => ⟨h _, h _, h _, h _, h _⟩
    have hp := p.isLt
    have pick : ∀ o, (ho : o ≤ p.val) → p.val < o + 16 → P ⟨o + (p.val - o), by omega⟩ → P p := fun o ho _ h => by
      have : (⟨o + (p.val - o), by omega⟩ : Fin 77) = p := Fin.ext (by simp; omega)
      exact this ▸ h
    by_cases h0 : p.val < 16
    · exact (h ⟨p.val, h0⟩).1
    by_cases h1 : p.val < 32
    · exact pick 16 (by omega) (by omega) (h ⟨p.val - 16, by omega⟩).2.1
    by_cases h2 : p.val < 48
    · exact pick 32 (by omega) (by omega) (h ⟨p.val - 32, by omega⟩).2.2.1
    by_cases h3 : p.val < 64
    · exact pick 48 (by omega) (by omega) (h ⟨p.val - 48, by omega⟩).2.2.2.1
    · exact pick 61 (by omega) (by omega) (h ⟨p.val - 61, by omega⟩).2.2.2.2
  have hE := eot_spec row
  have hlt := (eot row).isLt
  have htop : ∀ z, (topWord v9 v11 v13 v15 v17).toInt ≤ z ↔ ∀ p, (row p).toInt ≤ z := fun z => by
    rw [topWord_le]
    simp only [h9, h11, h13, h15, h17]
    exact all fun p => (row p).toInt ≤ z
  have hg : topWord v9 v11 v13 v15 v17 = row (eot row) := by
    apply BitVec.eq_of_toInt_eq
    exact le_antisymm ((htop _).2 hE.1) ((htop _).1 (le_refl _) _)
  have hend : ∀ z : ℤ, z ≤ 127 → (z ≤ (endWord v9 v11 v13 v15 v17).toInt ↔ ∀ p, row p = row (eot row) → z ≤ (p.val : ℤ)) := fun z hz => by
    rw [le_endWord _ _ _ _ _ z hz, hg]
    simp only [h9, h11, h13, h15, h17, Nat.zero_add]
    exact all fun p => row p = row (eot row) → z ≤ (p.val : ℤ)
  have hle : ((eot row).val : ℤ) ≤ (endWord v9 v11 v13 v15 v17).toInt := by
    refine (hend _ (by omega)).2 fun p hp => ?_
    by_contra hlt'
    have := hE.2 p (by rw [Fin.lt_def]; omega)
    rw [hp] at this; exact lt_irrefl _ this
  have hge : ¬ ((eot row).val : ℤ) + 1 ≤ (endWord v9 v11 v13 v15 v17).toInt := fun h => by
    have := (hend _ (by omega)).1 h (eot row) rfl
    omega
  apply BitVec.eq_of_toInt_eq
  rw [toInt_ofNat_of_lt (by omega)]
  omega

/-! ## A lane's column and its float -/

/-- The column a lane at position `a` gathers in a class with end `e`. -/
def slotW (a e : BitVec 32) : BitVec 32 :=
  Scalar.select (IntOp.cmpi .eq a 0#32) 0#32
    (Scalar.select (IntOp.andi (IntOp.cmpi .sge a 9#32) (IntOp.cmpi .slt a (Scalar.addi 8#32 e))) (IntOp.subi a 8#32)
      (Scalar.select (IntOp.cmpi .eq a (Scalar.addi 16#32 e)) e 0#32))

/-- Whether the position is owned. -/
def slotC (a e : BitVec 32) : BitVec 1 :=
  IntOp.ori (IntOp.ori (IntOp.cmpi .eq a 0#32) (IntOp.andi (IntOp.cmpi .sge a 9#32) (IntOp.cmpi .slt a (Scalar.addi 8#32 e))))
    (IntOp.cmpi .eq a (Scalar.addi 16#32 e))

/-- The float a lane stores, from the word it gathered. -/
def slotF (c : BitVec 1) (w : BitVec 32) : F .f32 :=
  Scalar.select c (FloatOps.sitofp .f32 w) (Scalar.ofBits .f32 0x00000000#32)

section
variable (p e : ℕ) (hp : p < 77) (he : e < 60)
include hp he

theorem add_words (o : ℕ) (ho : o < 77) :
    Scalar.addi (BitVec.ofNat 32 o) (BitVec.ofNat 32 e) = BitVec.ofNat 32 (o + e) := by
  rw [BitVec.ofNat_add]; rfl

theorem slotC_eq : slotC (BitVec.ofNat 32 p) (BitVec.ofNat 32 e) = BitVec.ofBool (decide (own e p)) := by
  unfold slotC
  rw [add_words p e hp he 8 (by omega), add_words p e hp he 16 (by omega), cmpi_eq_ofNat (by omega) (by omega), cmpi_eq_ofNat (by omega) (by omega),
    cmpi_sge_ofNat (by omega) (by omega), cmpi_slt_ofNat (by omega) (by omega), andi_ofBool, ori_ofBool, ori_ofBool]
  congr 1
  unfold own
  by_cases h0 : p = 0 <;> by_cases h1 : 9 ≤ p <;> by_cases h2 : p < 8 + e <;> by_cases h3 : p = 16 + e <;> simp [h0, h1, h2, h3]

theorem slotW_eq : slotW (BitVec.ofNat 32 p) (BitVec.ofNat 32 e) = BitVec.ofNat 32 (pos e p) := by
  unfold slotW pos
  rw [add_words p e hp he 8 (by omega), add_words p e hp he 16 (by omega), cmpi_eq_ofNat (by omega) (by omega), cmpi_eq_ofNat (by omega) (by omega),
    cmpi_sge_ofNat (by omega) (by omega), cmpi_slt_ofNat (by omega) (by omega), andi_ofBool]
  have hs : 9 ≤ p → IntOp.subi (BitVec.ofNat 32 p) 8#32 = BitVec.ofNat 32 (p - 8) := fun h => by
    apply BitVec.eq_of_toNat_eq
    simp only [IntOp.subi, BitVec.toNat_sub, BitVec.toNat_ofNat]
    omega
  unfold Scalar.select
  simp only [ofBool_eq_one_iff', decide_eq_true_eq, Bool.and_eq_true]
  split_ifs <;> first | rfl | exact hs (by omega) | omega
end

/-- A slab's lane sits at its column. -/
theorem lane_at (o : ℕ) (k : Fin 16) : IntOp.addi (lanes (ln k)) (BitVec.ofNat 32 o) = BitVec.ofNat 32 (o + k.val) := by
  rw [lanes_apply, Nat.add_comm, BitVec.ofNat_add]; rfl

section
variable (e : BitVec 32) (i : S16.Idx) (w : Vec F S16 .i32)

theorem cols0 : k0_pay18 e (k0_pay12 lanes) (k0_pay13 lanes) (k0_pay14 lanes) (k0_pay15 lanes e) i
    = slotW (IntOp.addi (lanes i) 0#32) e := rfl
theorem cols16 : k0_pay24 lanes e i = slotW (IntOp.addi (lanes i) 16#32) e := rfl
theorem cols32 : k0_pay31 lanes e i = slotW (IntOp.addi (lanes i) 32#32) e := rfl
theorem cols48 : k0_pay37 e (k0_pay33 lanes) 0#32 i = slotW (IntOp.addi (lanes i) 48#32) e := rfl
theorem cols61 : k0_pay1 e (k0_pay40 lanes) (k0_pay41 lanes e) (k0_pay42 lanes e) (k0_pay43 lanes) i
    = slotW (IntOp.addi (lanes i) 61#32) e := rfl

theorem vals0 : k0_pay19 e (k0_pay12 lanes) (k0_pay13 lanes) (k0_pay14 lanes) (k0_pay15 lanes e) w i
    = slotF (F := F) (slotC (IntOp.addi (lanes i) 0#32) e) (w i) := rfl
theorem vals16 : k0_pay26 (k0_pay23 lanes e) (k0_pay25 lanes e) w i
    = slotF (F := F) (slotC (IntOp.addi (lanes i) 16#32) e) (w i) := rfl
theorem vals32 : k0_pay32 lanes e w i = slotF (F := F) (slotC (IntOp.addi (lanes i) 32#32) e) (w i) := rfl
theorem vals48 : k0_pay38 e (k0_pay33 lanes) 0#32 w i
    = slotF (F := F) (slotC (IntOp.addi (lanes i) 48#32) e) (w i) := rfl
theorem vals61 : k0_pay2 (k0_pay40 lanes) (k0_pay41 lanes e) (k0_pay42 lanes e) w i
    = slotF (F := F) (slotC (IntOp.addi (lanes i) 61#32) e) (w i) := rfl
end

end

end Cert.Proof
-- ==== Proof.Offsets.lean ====
/-
  Where one class's copies read and write, once its end of text `e` is known to be a column from 5 to 59: the copy loop
  makes `(e - 1) / 8` trips of eight rows and its remainder loop none; the tail copy of eight rows is made just when the
  trips leave rows over; the two copies of four rows are made just when `e ≤ 8`. Every offset is a number, and every copy
  stays inside its arrays.
-/
module

public import proofs.«01_k».proof.Proof.Words

@[expose] public section

noncomputable section

namespace Cert.Proof

open Idealize.ShloMosaic Idealize.ShloMosaic.ValueIdx Idealize.ShloMosaic.WordCmp Cert.KernelIdeal Cert.KernelIdeal.Gen

/-- The word of an end of text. -/
abbrev eW (e : ℕ) : BitVec 32 := BitVec.ofNat 32 e

/-- The trips of eight rows. -/
abbrev nf (e : ℕ) : ℕ := (e - 1) / 8

section
variable (e : ℕ) (h5 : 5 ≤ e) (h60 : e < 60)
include h5 h60

theorem t2_loop_eq : k0_t2_loop (eW e) = ⟨0#32, BitVec.ofNat 32 (nf e), 1#32⟩ := by
  interval_cases e <;> rfl

theorem t3_loop_eq : k0_t3_loop (eW e) = ⟨BitVec.ofNat 32 (nf e), BitVec.ofNat 32 (nf e), 1#32⟩ := by
  interval_cases e <;> rfl

theorem cond1_eq : k0_cond1 (eW e) = BitVec.ofBool (decide (8 * nf e < e - 1 ∧ 8 ≤ e - 1)) := by
  interval_cases e <;> rfl

theorem cond2_eq : k0_cond2 (eW e) = BitVec.ofBool (decide (e - 1 < 8)) := by
  interval_cases e <;> rfl

theorem t2_trips : (k0_t2_loop (eW e)).trips = nf e := by
  interval_cases e <;> rfl

theorem t3_trips : (k0_t3_loop (eW e)).trips = 0 := by
  interval_cases e <;> rfl

theorem t2_OK : (k0_t2_loop (eW e)).OK := by
  rw [t2_loop_eq e h5 h60]
  interval_cases e <;> decide

theorem t3_OK : (k0_t3_loop (eW e)).OK := by
  rw [t3_loop_eq e h5 h60]
  interval_cases e <;> decide
end

/-! ## Offsets as numbers -/

section
variable (i : grid0.Coords) (t : Fin k0_t1_loop.trips)

theorem t1_lt : t.val < 32 := Nat.lt_of_lt_of_le t.isLt k0_t1_abs.2.1

/-- The class a trip works on. -/
def cls : Fin 1024 := ⟨32 * (16 * (i 0).val + (i 1).val) + t.val, by
  have h0 : (i 0).val < 2 := (i 0).isLt
  have h1 : (i 1).val < 16 := (i 1).isLt
  have := t1_lt t
  omega⟩

/-- The class's first row, as the kernel's word. -/
abbrev baseW : BitVec 32 :=
  Scalar.muli (Scalar.addi (Scalar.muli (Scalar.addi (Scalar.muli (BitVec.ofNat 32 (i 0).val) 16#32) (BitVec.ofNat 32 (i 1).val)) 32#32)
    (Scf.iv 0#32 1#32 t)) 77#32

theorem base_toNat : (baseW i t).toNat = 77 * (cls i t).val := by
  have h := congrFun (k0_off9_eq i t) 0
  change (baseW i t).toNat = 39424 * (i 0).val + 2464 * (i 1).val + 77 * t.val at h
  rw [h]; unfold cls; simp only; omega

theorem cls_lt : (cls i t).val < 1024 := (cls i t).isLt

theorem iv_val (n : ℕ) (hn : n < 1024) : Scf.iv 0#32 1#32 n = BitVec.ofNat 32 n := by
  apply BitVec.eq_of_toNat_eq
  simp only [Scf.iv, BitVec.toNat_add, BitVec.toNat_mul, BitVec.toNat_ofNat]
  omega

theorem off7_eq : k0_off7 i t = ![77 * (cls i t).val + 1, 0] := by
  rw [k0_off7_eq]; unfold cls; congr 1; simp only; omega

theorem off8_eq : k0_off8 i t = ![77 * (cls i t).val, 0] := by
  rw [k0_off8_eq]; unfold cls; congr 1; simp only; omega

theorem off9_eq : k0_off9 i t = ![77 * (cls i t).val, 0] := by
  rw [k0_off9_eq]; unfold cls; congr 1; simp only; omega

theorem off16_eq : k0_off16 i t = ![77 * (cls i t).val + 9, 0] := by
  rw [k0_off16_eq]; unfold cls; congr 1; simp only; omega

variable (e : ℕ) (h5 : 5 ≤ e) (h60 : e < 60)
include h5 h60

theorem off10_eq (k : Fin (k0_t2_loop (eW e)).trips) : k0_off10 (eW e) k = ![1 + 8 * k.val, 0] := by
  have hk : k.val < (e - 1) / 8 := lt_of_lt_of_eq k.isLt (t2_trips e h5 h60)
  change ![(1#32 + 8#32 * Scf.iv 0#32 1#32 k).toNat, 0] = _
  rw [iv_val _ (by omega)]
  congr 1
  simp only [BitVec.toNat_add, BitVec.toNat_mul, BitVec.toNat_ofNat]
  omega

theorem off11_eq (k : Fin (k0_t2_loop (eW e)).trips) : k0_off11 i t (eW e) k = ![77 * (cls i t).val + 9 + 8 * k.val, 0] := by
  have hk : k.val < (e - 1) / 8 := lt_of_lt_of_eq k.isLt (t2_trips e h5 h60)
  change ![((baseW i t + 9#32) + 8#32 * Scf.iv 0#32 1#32 k).toNat, 0] = _
  have := base_toNat i t
  have := cls_lt i t
  rw [iv_val _ (by omega)]
  congr 1
  simp only [BitVec.toNat_add, BitVec.toNat_mul, BitVec.toNat_ofNat]
  omega

theorem off14_eq (h : 9 ≤ e) : k0_off14 (eW e) = ![e - 8, 0] := by
  change ![((1#32 + (eW e - 1#32)) - 8#32).toNat, 0] = _
  congr 1
  simp only [BitVec.toNat_add, BitVec.toNat_sub, BitVec.toNat_ofNat]
  omega

theorem off15_eq (h : 9 ≤ e) : k0_off15 i t (eW e) = ![77 * (cls i t).val + e, 0] := by
  change ![(((baseW i t + 9#32) + (eW e - 1#32)) - 8#32).toNat, 0] = _
  have := base_toNat i t
  have := cls_lt i t
  congr 1
  simp only [BitVec.toNat_add, BitVec.toNat_sub, BitVec.toNat_ofNat]
  omega

theorem off17_eq : k0_off17 (eW e) = ![e - 4, 0] := by
  change ![((1#32 + (eW e - 1#32)) - 4#32).toNat, 0] = _
  congr 1
  simp only [BitVec.toNat_add, BitVec.toNat_sub, BitVec.toNat_ofNat]
  omega

theorem off18_eq : k0_off18 i t (eW e) = ![77 * (cls i t).val + e + 4, 0] := by
  change ![(((baseW i t + 9#32) + (eW e - 1#32)) - 4#32).toNat, 0] = _
  have := base_toNat i t
  have := cls_lt i t
  congr 1
  simp only [BitVec.toNat_add, BitVec.toNat_sub, BitVec.toNat_ofNat]
  omega

theorem off19_eq : k0_off19 (eW e) = ![e, 0] := by
  change ![(eW e).toNat, 0] = _
  congr 1
  simp only [BitVec.toNat_ofNat]
  omega

theorem off20_eq : k0_off20 i t (eW e) = ![77 * (cls i t).val + 16 + e, 0] := by
  change ![(((baseW i t + 8#32) + 8#32) + eW e).toNat, 0] = _
  have := base_toNat i t
  have := cls_lt i t
  congr 1
  simp only [BitVec.toNat_add, BitVec.toNat_ofNat]
  omega

theorem cond1_iff : k0_cond1 (eW e) = 1#1 ↔ 8 * nf e < e - 1 ∧ 8 ≤ e - 1 := by
  rw [cond1_eq e h5 h60, ofBool_eq_one_iff, decide_eq_true_eq]

theorem cond2_iff : k0_cond2 (eW e) = 1#1 ↔ e - 1 < 8 := by
  rw [cond2_eq e h5 h60, ofBool_eq_one_iff, decide_eq_true_eq]

/-- Every copy of the class stays inside its arrays. -/
theorem chk1_holds : k0_chk1 i t (eW e) := by
  have hc := cls_lt i t
  have none3 : ∀ P : Fin (k0_t3_loop (eW e)).trips → Prop, ∀ k, P k := fun P k =>
    absurd (lt_of_lt_of_eq k.isLt (t3_trips e h5 h60)) (by omega)
  refine ⟨t2_OK e h5 h60, fun k => ?_, fun k => ?_, t3_OK e h5 h60, none3 _, none3 _, fun h => ?_, fun h => ?_, fun h => ?_, fun h => ?_, ?_, ?_⟩
  · have hk : k.val < (e - 1) / 8 := lt_of_lt_of_eq k.isLt (t2_trips e h5 h60)
    rw [off10_eq e h5 h60]
    exact Fin.forall_fin_two.2 ⟨by simp; omega, by simp⟩
  · have hk : k.val < (e - 1) / 8 := lt_of_lt_of_eq k.isLt (t2_trips e h5 h60)
    rw [off11_eq i t e h5 h60]
    exact Fin.forall_fin_two.2 ⟨by simp; omega, by simp⟩
  · have h := (cond1_iff e h5 h60).1 h
    rw [off14_eq e h5 h60 (by omega)]
    exact Fin.forall_fin_two.2 ⟨by simp; omega, by simp⟩
  · have h := (cond1_iff e h5 h60).1 h
    rw [off15_eq i t e h5 h60 (by omega)]
    exact Fin.forall_fin_two.2 ⟨by simp; omega, by simp⟩
  · rw [off17_eq e h5 h60]
    exact Fin.forall_fin_two.2 ⟨by simp; omega, by simp⟩
  · rw [off18_eq i t e h5 h60]
    exact Fin.forall_fin_two.2 ⟨by simp; omega, by simp⟩
  · rw [off19_eq e h5 h60]
    exact Fin.forall_fin_two.2 ⟨by simp; omega, by simp⟩
  · rw [off20_eq i t e h5 h60]
    exact Fin.forall_fin_two.2 ⟨by simp; omega, by simp⟩

end

end Cert.Proof
-- ==== Proof.Setup.lean ====
/-
  The kernel as the SparseCore launch theorem sees it, and one rule for its copies.

  Every copy of the kernel is issued and waited for at once, on a semaphore of its own that is at zero before and after.
  `wp_copy` is the rule for such a pair: from the source (any share) and the destination (whole share) on element sets that
  cover the copy's, the destination comes back rewritten with what the source's view reads.
-/
module

public import proofs.«01_k».proof.Proof.Offsets
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev MM (F : FTy → Type) : Type _ := MT nD τ sig (HIx 1) (Elt F) ℕ UU ℕ

abbrev EH : Emb UH (MT nD τ sig (HIx 1) (Elt F) ℕ UU ℕ) := embL

/-! ## What a subcore owes -/

section Owing
variable (thr : Thread nD τ)

/-- The thread owes `O`; the waits it has recorded are those of `W` and ones of no round. -/
def Owing (O : CellTallies nD τ sig (HIx 1)) (W : Waits sig (HIx 1)) : sProp (MM F) :=
  iprop(∃ W', ⌜∀ p ∈ W', p ∈ W ∨ p.2 = none⌝ ∗ owes thr O W')

variable {thr}

theorem Owing_intro {O : CellTallies nD τ sig (HIx 1)} {W : Waits sig (HIx 1)} : owes thr O W ⊢ (Owing thr O W : sProp (MM F)) := by
  unfold Owing
  iintro H
  iexists W
  isplitr
  · ipureintro; exact fun p hp => .inl hp
  · iexact H

/-- A copy and its wait. -/
theorem wp_copy [FloatOps F] (sp sp' : Space) (s : Shape) (e : EltTy) {α : Type} {Q : α → sProp (MM F)}
    {src : Memref sig thr.2.kind sp s e} {dst : Memref sig thr.2.kind sp' s e} {sem : DmaSem sig}
    {h₁ : src.view.WordExact} {h₂ : dst.view.WordExact} {h₃ : DmaTarget.Typed (nD := nD) sp (.dma sem) (.here dst)}
    {h₄ : src.view.WordExact} {h₅ : dst.view.WordExact}
    {k : PUnit → Prog (TpuEff nD τ sig (Elt F) Λ₀ thr.2) α} {q : PosShare TreeShare}
    {fs : Buf (Elt F) (src.view.loc thr)} {fd : Buf (Elt F) (dst.view.loc thr)}
    {Ss : Finset (Idx (src.view.loc thr))} {Sd : Finset (Idx (dst.view.loc thr))}
    {O : CellTallies nD τ sig (HIx 1)} {W : Waits sig (HIx 1)}
    (hN : 0 < s.numel) (hSs : src.view.set ⊆ Ss) (hSd : dst.view.set ⊆ Sd) :
    iprop(Transfers.MayWaits thr (none : HIx 1) O ∗ (src.view.loc thr ↦[Ss]{q} fs) ∗ (dst.view.loc thr ↦[Sd]{fullShare} fd)
        ∗ semVal (thr, .dma sem) 0 ∗ Owing thr O W)
      ⊢ iprop((iprop((src.view.loc thr ↦[Ss]{q} fs)
              ∗ (dst.view.loc thr ↦[Sd]{fullShare} (dst.view.write (Elt F) fd (src.view.read (Elt F) fs) Finset.univ))
              ∗ semVal (thr, .dma sem) 0 ∗ Owing thr O W)
            -∗ wp frame (wpE (defs₀ (F := F)) 𝒱₀ thr none) Set.univ (k ⟨⟩) Q)
          -∗ wp frame (wpE (defs₀ (F := F)) 𝒱₀ thr none) Set.univ
              (.op (.enqueueDma src (.here dst) (.dma sem) h₁ h₂ h₃) fun _ => .op (.waitDma2 sem src dst h₄ h₅) k) Q) := by
  unfold Owing
  iintro ⟨#Hmw, Hs, Hd, Hv, %W', %hW', HO⟩ Hk
  ihave Hs' := (pointsTo_split_subset hSs).1 $$ Hs
  icases Hs' with ⟨Hs, Hrest⟩
  iapply (Transfers.wp_dmaLocal countersEmb 𝒱₀ thr none (none : HIx 1) _ rfl (View.amount_pos _ _ hN) hSd) $$ [Hs Hd Hv]
  · isplitl [Hs]; · iexact Hs
    isplitl [Hd]; · iexact Hd
    iexact Hv
  iintro Hf
  iapply (Transfers.wp_waitLocalO countersEmb 𝒱₀ thr none (none : HIx 1) rfl) $$ [Hf HO]
  · isplitl [Hf]; · iexact Hf
    isplitl [HO]; · iexact HO
    iapply (Transfers.MayWaits.elim (.dma sem)) $$ Hmw
  iintro ⟨⟨Hd, Hs⟩, Hv, HO⟩
  iapply Hk
  isplitl [Hs Hrest]
  · iapply (pointsTo_split_subset hSs).2
    isplitl [Hs]; · iexact Hs
    iexact Hrest
  isplitl [Hd]; · iexact Hd
  isplitl [Hv]; · iexact Hv
  iexists (insert (SemLoc.dma sem, none) W')
  isplitr
  · ipureintro
    intro p hp
    rcases Finset.mem_insert.mp hp with hp | hp
    · exact .inr (hp ▸ rfl)
    · exact hW' p hp
  · iexact HO

end Owing

end Cert.Proof
-- ==== Proof.Views.lean ====
/-
  The arrays a subcore works on, and what its row copies do to the block of output rows it owns.

  A copy of `k` whole rows into the output changes exactly those rows; `Stage n e A f` says how far the copies of class `n`
  have got: the classes of this subcore before `n` are finished, and of class `n`'s own rows (row 0 aside, which the
  table copy leaves out) those at positions in `A` hold the class's embedding rows and the others the table's.
-/
module

public import proofs.«01_k».proof.Proof.Spec
public import proofs.«01_k».proof.Proof.Setup
public import Idealize.ShloMosaic.Lib.WritesUnit

@[expose] public section

noncomputable section

namespace Cert.Proof

open Cert.KernelIdeal Cert.KernelIdeal.Gen
open Idealize.ShloMosaic Idealize.ShloMosaic.ValueIdx

variable {F : FTy → Type} [FloatOps F]

/-! ## The arrays -/

abbrev embA : Memref sig .scVector .hbm S78848x512 .f32 := Memref.whole main_v0_scv
abbrev tokA : Memref sig .scVector .hbm S1024x77 .i32 := Memref.whole main_arg1_scv
abbrev tabA : Memref sig .scVector .hbm S77x512 .f32 := Memref.whole main_arg2_scv
abbrev outE : Memref sig .scVector .hbm S78848x512 .f32 := Memref.whole main_v1_0_scv
abbrev outT : Memref sig .scVector .hbm S32x32x77 .f32 := Memref.whole main_v1_1_scv
abbrev scrP : Memref sig .scVector .vmem S77x512 .f32 := Memref.whole cc0_scratch0
abbrev scrE : Memref sig .scVector .vmem S60x512 .f32 := Memref.whole cc0_scratch1
abbrev scrK : Memref sig .scVector .vmem S32x77 .i32 := Memref.whole cc0_scratch2
abbrev scrT : Memref sig .scVector .vmem S32x77 .f32 := Memref.whole cc0_scratch3

/-- The output rows subcore number `w` owns: those of its 32 classes. -/
def blk (w : ℕ) : Finset S78848x512.Idx := Finset.univ.filter fun y => 2464 * w ≤ (y 0).val ∧ (y 0).val < 2464 * w + 2464

/-- The plane of the second output subcore number `w` owns. -/
def slab (w : ℕ) : Finset S32x32x77.Idx := Finset.univ.filter fun y => (y 0).val = w

theorem mem_blk {w : ℕ} {y : S78848x512.Idx} : y ∈ blk w ↔ 2464 * w ≤ (y 0).val ∧ (y 0).val < 2464 * w + 2464 := by
  simp [blk]

theorem mem_slab {w : ℕ} {y : S32x32x77.Idx} : y ∈ slab w ↔ (y 0).val = w := by
  simp [slab]

/-! ## Row copies -/

section Rows
variable {k a b : ℕ} {off : Fin 2 → ℕ}

/-- Rows under the copy hold what was copied. -/
theorem outE_write_in (inb : ∀ x : Fin 2, off x + (![k, 512] : Fin 2 → ℕ) x ≤ S78848x512.size x)
    (hs : ∀ x, (Rect.unit (s := S78848x512) off ![k, 512] inb).stride x = 1) (hoff : off = ![a, 0]) (f : S78848x512.Idx → F .f32)
    (w : (⟨2, ![k, 512]⟩ : Shape).Idx → F .f32) (x : Fin k) (c : Fin 512) (hr : a + x.val < 78848) :
    ((outE.slice (Rect.unit (s := S78848x512) off ![k, 512] inb) hs).view.write (Elt F) f w Finset.univ : S78848x512.Idx → F .f32)
      (ix2 ⟨a + x.val, hr⟩ c) = w (ix2 x c) :=
  View.read_writes_cons_rows_of_mem (Val := Elt F) outE.view f inb w [] (ix2 ⟨a + x.val, hr⟩ c) (ix2 x c) hoff rfl rfl

/-- The other rows are unchanged. -/
theorem outE_write_out (inb : ∀ x : Fin 2, off x + (![k, 512] : Fin 2 → ℕ) x ≤ S78848x512.size x)
    (hs : ∀ x, (Rect.unit (s := S78848x512) off ![k, 512] inb).stride x = 1) (hoff : off = ![a, 0]) (f : S78848x512.Idx → F .f32)
    (w : (⟨2, ![k, 512]⟩ : Shape).Idx → F .f32) (y : S78848x512.Idx) (h : (y 0).val < a ∨ a + k ≤ (y 0).val) :
    ((outE.slice (Rect.unit (s := S78848x512) off ![k, 512] inb) hs).view.write (Elt F) f w Finset.univ : S78848x512.Idx → F .f32) y
      = f y :=
  View.read_writes_cons_rows_of_not_mem (Val := Elt F) outE.view f inb w [] y hoff rfl h

/-- A copy whose rows are the subcore's stays in its block. -/
theorem outE_slice_sub (inb : ∀ x : Fin 2, off x + (![k, 512] : Fin 2 → ℕ) x ≤ S78848x512.size x)
    (hs : ∀ x, (Rect.unit (s := S78848x512) off ![k, 512] inb).stride x = 1) (hoff : off = ![a, 0]) {w : ℕ} (h0 : 2464 * w ≤ a)
    (h1 : a + k ≤ 2464 * w + 2464) :
    ((outE.slice (Rect.unit (s := S78848x512) off ![k, 512] inb) hs).view.set : Finset S78848x512.Idx) ⊆ blk w := by
  subst hoff
  intro y hy
  have hy' : y ∈ (Rect.unit (s := S78848x512) ![a, 0] ![k, 512] inb).set := by
    rw [← View.set_slice_whole main_v1_0_scv]; exact hy
  have := (Rect.mem_set_unit.1 hy') 0
  rw [mem_blk]
  have e0 : (![a, 0] : Fin 2 → ℕ) 0 = a := rfl
  have e1 : (![k, 512] : Fin 2 → ℕ) 0 = k := rfl
  omega

theorem scrE_read (inb : ∀ x : Fin 2, off x + (![k, 512] : Fin 2 → ℕ) x ≤ S60x512.size x)
    (hs : ∀ x, (Rect.unit (s := S60x512) off ![k, 512] inb).stride x = 1) (hoff : off = ![b, 0]) (f : S60x512.Idx → F .f32)
    (x : Fin k) (c : Fin 512) (hr : b + x.val < 60) :
    ((scrE.slice (Rect.unit (s := S60x512) off ![k, 512] inb) hs).view.read (Elt F) f : (⟨2, ![k, 512]⟩ : Shape).Idx → F .f32) (ix2 x c)
      = f (ix2 ⟨b + x.val, hr⟩ c) := by
  subst hoff
  change f _ = _
  congr 1
  funext z
  apply Fin.ext
  match z with
  | 0 => change b + 1 * x.val = b + x.val; omega
  | 1 => change 0 + 1 * c.val = c.val; omega

theorem scrP_read (inb : ∀ x : Fin 2, off x + (![k, 512] : Fin 2 → ℕ) x ≤ S77x512.size x)
    (hs : ∀ x, (Rect.unit (s := S77x512) off ![k, 512] inb).stride x = 1) (hoff : off = ![b, 0]) (f : S77x512.Idx → F .f32)
    (x : Fin k) (c : Fin 512) (hr : b + x.val < 77) :
    ((scrP.slice (Rect.unit (s := S77x512) off ![k, 512] inb) hs).view.read (Elt F) f : (⟨2, ![k, 512]⟩ : Shape).Idx → F .f32) (ix2 x c)
      = f (ix2 ⟨b + x.val, hr⟩ c) := by
  subst hoff
  change f _ = _
  congr 1
  funext z
  apply Fin.ext
  match z with
  | 0 => change b + 1 * x.val = b + x.val; omega
  | 1 => change 0 + 1 * c.val = c.val; omega

theorem embA_read (inb : ∀ x : Fin 2, off x + (![k, 512] : Fin 2 → ℕ) x ≤ S78848x512.size x)
    (hs : ∀ x, (Rect.unit (s := S78848x512) off ![k, 512] inb).stride x = 1) (hoff : off = ![b, 0]) (f : S78848x512.Idx → F .f32)
    (x : Fin k) (c : Fin 512) (hr : b + x.val < 78848) :
    ((embA.slice (Rect.unit (s := S78848x512) off ![k, 512] inb) hs).view.read (Elt F) f : (⟨2, ![k, 512]⟩ : Shape).Idx → F .f32) (ix2 x c)
      = f (ix2 ⟨b + x.val, hr⟩ c) := by
  subst hoff
  change f _ = _
  congr 1
  funext z
  apply Fin.ext
  match z with
  | 0 => change b + 1 * x.val = b + x.val; omega
  | 1 => change 0 + 1 * c.val = c.val; omega

theorem tokA_read (inb : ∀ x : Fin 2, off x + (![k, 77] : Fin 2 → ℕ) x ≤ S1024x77.size x)
    (hs : ∀ x, (Rect.unit (s := S1024x77) off ![k, 77] inb).stride x = 1) (hoff : off = ![b, 0]) (f : S1024x77.Idx → BitVec 32)
    (x : Fin k) (c : Fin 77) (hr : b + x.val < 1024) :
    ((tokA.slice (Rect.unit (s := S1024x77) off ![k, 77] inb) hs).view.read (Elt F) f : (⟨2, ![k, 77]⟩ : Shape).Idx → BitVec 32) (ix2 x c)
      = f (ix2 ⟨b + x.val, hr⟩ c) := by
  subst hoff
  change f _ = _
  congr 1
  funext z
  apply Fin.ext
  match z with
  | 0 => change b + 1 * x.val = b + x.val; omega
  | 1 => change 0 + 1 * c.val = c.val; omega

end Rows

/-! ## The output block while a class is being built -/

section Stages
variable (emb : S78848x512.Idx → F .f32) (tok : S1024x77.Idx → BitVec 32) (tab : S77x512.Idx → F .f32)

/-- Row `p` of class `n`, its number among all the rows. -/
def rowOf (n : Fin 1024) (p : ℕ) (hp : p < 77) : Fin 78848 := ⟨77 * n.val + p, by have := n.isLt; omega⟩

/-- The first 60 rows of class `n`: what the class's row buffer holds. -/
def rowsE (n : Fin 1024) : S60x512.Idx → F .f32 := fun y =>
  emb (ix2 (rowOf n (y 0).val (lt_trans (show (y 0).val < 60 from (y 0).isLt) (by omega))) (y 1))

/-- Every class of block `w` before row `r` is finished. -/
def Done (w r : ℕ) (f : S78848x512.Idx → F .f32) : Prop :=
  ∀ y, 2464 * w ≤ (y 0).val → (y 0).val < r → f y = expE emb tok tab y

structure Stage (w : ℕ) (n : Fin 1024) (e : ℕ) (he : e < 60) (A : ℕ → Prop) (f : S78848x512.Idx → F .f32) : Prop where
  old : Done emb tok tab w (77 * n.val) f
  copied : ∀ p (hp : p < 77) c, A p → f (ix2 (rowOf n p hp) c) = emb (ix2 (rowOf n (pos e p) (lt_trans (pos_lt60 he) (by omega))) c)
  kept : ∀ p (hp : p < 77) c, ¬ A p → p ≠ 0 → f (ix2 (rowOf n p hp) c) = tab (ix2 ⟨p, hp⟩ c)

variable {emb tok tab} {w : ℕ} {n : Fin 1024} {e : ℕ} {he : e < 60} {A B : ℕ → Prop} {f : S78848x512.Idx → F .f32}

theorem Stage.congr (h : Stage emb tok tab w n e he A f) (hAB : ∀ p, p < 77 → (A p ↔ B p)) : Stage emb tok tab w n e he B f :=
  ⟨h.old, fun p hp c hB => h.copied p hp c ((hAB p hp).2 hB), fun p hp c hB => h.kept p hp c fun hA => hB ((hAB p hp).1 hA)⟩

/-- The table copy: rows 1 to 76 of the table onto the class's. -/
theorem stage_table {off off' : Fin 2 → ℕ} (inb : ∀ x : Fin 2, off x + (![76, 512] : Fin 2 → ℕ) x ≤ S78848x512.size x)
    (hs : ∀ x, (Rect.unit (s := S78848x512) off ![76, 512] inb).stride x = 1)
    (inb' : ∀ x : Fin 2, off' x + (![76, 512] : Fin 2 → ℕ) x ≤ S77x512.size x)
    (hs' : ∀ x, (Rect.unit (s := S77x512) off' ![76, 512] inb').stride x = 1)
    (hoff : off = ![77 * n.val + 1, 0]) (hoff' : off' = ![1, 0]) (h : Done emb tok tab w (77 * n.val) f) :
    Stage emb tok tab w n e he (fun _ => False)
      ((outE.slice (Rect.unit (s := S78848x512) off ![76, 512] inb) hs).view.write (Elt F) f
        ((scrP.slice (Rect.unit (s := S77x512) off' ![76, 512] inb') hs').view.read (Elt F) tab) Finset.univ) where
  old y h0 h1 := (outE_write_out inb hs hoff f _ y (.inl (by omega))).trans (h y h0 h1)
  copied p hp c hA := hA.elim
  kept p hp c _ h0 := by
    have hn := n.isLt
    have hrow : rowOf n p hp = ⟨(77 * n.val + 1) + (⟨p - 1, by omega⟩ : Fin 76).val, by simp only; omega⟩ := by
      apply Fin.ext; simp only [rowOf]; omega
    rw [hrow, outE_write_in inb hs hoff f _ ⟨p - 1, by omega⟩ c, scrP_read inb' hs' hoff' tab ⟨p - 1, by omega⟩ c (by simp only; omega)]
    congr 2
    apply Fin.ext; simp only; omega

/-- A copy of `k` of the class's rows: rows `b …` of the row buffer onto positions `a …`. -/
theorem stage_rows {k a b : ℕ} {off off' : Fin 2 → ℕ} (inb : ∀ x : Fin 2, off x + (![k, 512] : Fin 2 → ℕ) x ≤ S78848x512.size x)
    (hs : ∀ x, (Rect.unit (s := S78848x512) off ![k, 512] inb).stride x = 1)
    (inb' : ∀ x : Fin 2, off' x + (![k, 512] : Fin 2 → ℕ) x ≤ S60x512.size x)
    (hs' : ∀ x, (Rect.unit (s := S60x512) off' ![k, 512] inb').stride x = 1)
    (hoff : off = ![77 * n.val + a, 0]) (hoff' : off' = ![b, 0]) (hb : b + k ≤ 60) (hpos : ∀ p, a ≤ p → p < a + k → pos e p = b + (p - a))
    (h : Stage emb tok tab w n e he A f) :
    Stage emb tok tab w n e he (fun p => A p ∨ (a ≤ p ∧ p < a + k))
      ((outE.slice (Rect.unit (s := S78848x512) off ![k, 512] inb) hs).view.write (Elt F) f
        ((scrE.slice (Rect.unit (s := S60x512) off' ![k, 512] inb') hs').view.read (Elt F) (rowsE emb n)) Finset.univ) where
  old y h0 h1 := (outE_write_out inb hs hoff f _ y (.inl (by omega))).trans (h.old y h0 h1)
  copied p hp c hA := by
    by_cases hr : a ≤ p ∧ p < a + k
    · have hn := n.isLt
      have hrow : rowOf n p hp = ⟨(77 * n.val + a) + (⟨p - a, by omega⟩ : Fin k).val, by simp only; omega⟩ := by
        apply Fin.ext; simp only [rowOf]; omega
      have hp' := hpos p hr.1 hr.2
      rw [hrow, outE_write_in inb hs hoff f _ ⟨p - a, by omega⟩ c, scrE_read inb' hs' hoff' _ ⟨p - a, by omega⟩ c (by simp only; omega)]
      simp only [rowsE]
      congr 2
      apply Fin.ext; simp only [rowOf, hp', ix2_0]
    · have hA' : A p := hA.resolve_right hr
      rw [← h.copied p hp c hA']
      exact outE_write_out inb hs hoff f _ _ (by simp only [ix2_0, rowOf]; omega)
  kept p hp c hA h0 := by
    rw [not_or] at hA
    rw [← h.kept p hp c hA.1 h0]
    exact outE_write_out inb hs hoff f _ _ (by simp only [ix2_0, rowOf]; omega)

/-- A class all of whose owned positions are copied is finished. -/
theorem Stage.done (hE : (eotAt tok n).val = e) (h : Stage emb tok tab w n e he (own e) f) :
    Done emb tok tab w (77 * n.val + 77) f := by
  intro y h0 h1
  by_cases hy : (y 0).val < 77 * n.val
  · exact h.old y h0 hy
  · have hq : (y 0).val / 77 = n.val := by omega
    have hm : (y 0).val % 77 < 77 := Nat.mod_lt _ (by omega)
    obtain ⟨r, c, rfl⟩ : ∃ (r : Fin 78848) (c : Fin 512), y = ix2 r c := ⟨y 0, y 1, eq_ix2 y⟩
    have hr : r = rowOf n (r.val % 77) hm := by
      apply Fin.ext; simp only [rowOf]; simp only [ix2_0] at hq; omega
    have hn : (⟨r.val / 77, by omega⟩ : Fin 1024) = n := Fin.ext hq
    change f (ix2 r c) = cellE emb tok tab ⟨r.val / 77, _⟩ ⟨r.val % 77, hm⟩ c
    rw [hn]
    unfold cellE
    simp only [hE]
    split
    · next ho =>
      conv_lhs => rw [hr]
      rw [h.copied _ hm c ho]
      rfl
    · next ho =>
      conv_lhs => rw [hr]
      rw [h.kept _ hm c ho fun h0 => ho (.inl h0)]

end Stages

end Cert.Proof
-- ==== Proof.Slabs.lean ====
/-
  The second result, sixteen positions at a time.

  A class's 77 positions are covered by five slabs of sixteen, starting at 0, 16, 32, 48 and 61. For each slab the kernel
  gathers the token word copied along with each position and stores the words, as floats, where the position is owned and
  zero elsewhere. `wp_slab` runs one slab's gather, load and store; `TStage w t hi g` says that the buffer `g` holds the
  second result for the first `t` classes of plane `w` and the first `hi` positions of class `t`.
-/
module

public import proofs.«01_k».proof.Proof.Words
public import proofs.«01_k».proof.Proof.Views
public import Idealize.ShloMosaic.Lib.SparseCore.Ops

@[expose] public section

noncomputable section

namespace Cert.Proof

open Cert.KernelIdeal Cert.KernelIdeal.Gen
open Idealize.ShloMosaic Idealize.ShloMosaic.ValueIdx Idealize.ShloMosaic.WordCmp
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## What the buffers hold -/

section
variable (tok : S1024x77.Idx → BitVec 32) (w : Fin 32)

/-- Class `t` of plane `w`. -/
def clsOf (t : Fin 32) : Fin 1024 := ⟨32 * w.val + t.val, by omega⟩

/-- The token rows of plane `w`. -/
def rowsK : S32x77.Idx → BitVec 32 := fun y => tok (ix2 (clsOf w (y 0)) (y 1))

theorem rowsK_at (t : Fin 32) (p : Fin 77) : rowsK tok w (ix2 t p) = tok (ix2 (clsOf w t) p) := rfl

def TStage (t hi : ℕ) (g : S32x77.Idx → F .f32) : Prop :=
  ∀ (a : Fin 32) (p : Fin 77), (a.val < t ∨ (a.val = t ∧ p.val < hi)) → g (ix2 a p) = cellT tok (clsOf w a) p

variable {tok w}

theorem TStage.next {t : ℕ} {g : S32x77.Idx → F .f32} (h : TStage tok w t 77 g) : TStage tok w (t + 1) 0 g :=
  fun a p hp => h a p (by have := p.isLt; omega)

theorem TStage.start {t hi : ℕ} {g : S32x77.Idx → F .f32} (h : TStage tok w t hi g) : TStage tok w t 0 g :=
  fun a p hp => h a p (by omega)

/-- One slab stored. -/
theorem TStage.store {t : Fin 32} {hi o : ℕ} {g : S32x77.Idx → F .f32} (h : TStage tok w t.val hi g) (ho : o ≤ hi) (ho' : o + 16 ≤ 77)
    {off : Fin 2 → ℕ} (hoff : off = ![t.val, o]) (inb : ∀ a, off a + S1x16.size a ≤ S32x77.size a) (v : FVec F S16 .f32)
    (hv : ∀ k : Fin 16, v (ln k) = cellT tok (clsOf w t) ⟨o + k.val, by omega⟩) :
    TStage tok w t.val (o + 16) (scrT.view.writes (Elt F) g
      [⟨Rect.unit (s := S32x77) off S1x16.size inb, shapeCast S1x16 v shapeCasts_S16_S1x16⟩]) := by
  intro a p hp
  by_cases hin : a.val = t.val ∧ o ≤ p.val
  · obtain ⟨ha, hop⟩ := hin
    obtain rfl : a = t := Fin.ext ha
    have hk : p.val - o < 16 := by omega
    refine (View.read_writes_cons_unit_of_mem (Val := Elt F) scrT.view g inb _ [] (ix2 a p) (ix2 (0 : Fin 1) (⟨p.val - o, hk⟩ : Fin 16)) hoff ?_).trans ?_
    · intro z
      match z with
      | 0 => rfl
      | 1 => change p.val = o + (p.val - o); omega
    · refine (shapeCast_addUnit_apply ![16] v shapeCasts_S16_S1x16 _).trans ?_
      refine (congrArg v (eq_ln _)).trans ((hv ⟨p.val - o, hk⟩).trans ?_)
      congr 1
      apply Fin.ext; simp only; omega
  · have hold : g (ix2 a p) = cellT tok (clsOf w a) p := h a p (by omega)
    refine Eq.trans ?_ hold
    by_cases ha : a.val = t.val
    · exact View.read_writes_cons_unit_of_not_mem (Val := Elt F) scrT.view g inb _ [] (ix2 a p) hoff 1 (.inl (by
        change p.val < o; omega))
    · exact View.read_writes_cons_unit_of_not_mem (Val := Elt F) scrT.view g inb _ [] (ix2 a p) hoff 0 (by
        change a.val < t.val ∨ t.val + 1 ≤ a.val; omega)

/-! ## A slab's columns and values -/

variable {t : Fin 32} {o e : ℕ} (ho : o + 16 ≤ 77) (he : e < 60) {rows cols : IVec S16 32}
  (hr : rows = broadcast S16 (BitVec.ofNat 32 t.val)) (hc : ∀ i, cols i = slotW (IntOp.addi (lanes i) (BitVec.ofNat 32 o)) (BitVec.ofNat 32 e))
include ho he hr hc

theorem cols_toNat (k : Fin 16) : (cols (ln k)).toNat = pos e (o + k.val) := by
  rw [hc, lane_at, slotW_eq _ _ (by omega) he, BitVec.toNat_ofNat]
  have : pos e (o + k.val) < 60 := pos_lt60 he
  omega

theorem slab_inb : ∀ a x, ((![rows, cols] : Fin 2 → IVec S16 32) a x).toNat < S32x77.size a := by
  intro a x
  obtain ⟨k, rfl⟩ : ∃ k : Fin 16, x = ln k := ⟨x 0, eq_ln x⟩
  match a with
  | 0 =>
    change (rows _).toNat < 32
    rw [hr]
    change (BitVec.ofNat 32 t.val).toNat < 32
    rw [BitVec.toNat_ofNat]; omega
  | 1 =>
    change (cols _).toNat < 77
    rw [cols_toNat ho he hr hc]
    have : pos e (o + k.val) < 60 := pos_lt60 he
    exact lt_trans this (by omega)

theorem slab_value (hE : (eotAt tok (clsOf w t)).val = e) (hidx : ∀ a x, ((![rows, cols] : Fin 2 → IVec S16 32) a x).toNat < S32x77.size a)
    (k : Fin 16) :
    slotF (F := F) (slotC (IntOp.addi (lanes (ln k)) (BitVec.ofNat 32 o)) (BitVec.ofNat 32 e))
        (loadIdx (F := F) (e := .i32) (rowsK tok w) ![rows, cols] hidx (ln k))
      = cellT tok (clsOf w t) ⟨o + k.val, by omega⟩ := by
  have hval : loadIdx (F := F) (e := .i32) (rowsK tok w) ![rows, cols] hidx (ln k)
      = tok (ix2 (clsOf w t) ⟨pos e (o + k.val), lt_trans (pos_lt60 he) (by omega)⟩) := by
    change rowsK tok w (idxAt (s := S32x77) ![rows, cols] hidx (ln k)) = _
    rw [← rowsK_at tok w]
    congr 1
    funext a
    apply Fin.ext
    match a with
    | 0 =>
      change (rows (ln k)).toNat = t.val
      rw [hr]
      change (BitVec.ofNat 32 t.val).toNat = t.val
      rw [BitVec.toNat_ofNat]; omega
    | 1 => exact cols_toNat ho he hr hc k
  rw [hval, lane_at, slotC_eq _ _ (by omega) he]
  unfold slotF cellT Scalar.select
  simp only [hE]
  by_cases h : own e (o + k.val)
  · simp [h]
  · simp [h]

end

/-! ## Running a slab -/

section Run
variable (d : Fin nD) (i : grid0.Coords)

/-- The vector subcore at grid position `i`. -/
abbrev tile : Thread nD τ := V d ((i 0).castLE hcore0) ((i 1).castLE hsub0)

theorem scrK_access (f : S32x77.Idx → BitVec 32) :
    ((scrK.access (.whole S32x77)).read (Elt F) f : S32x77.Idx → BitVec 32) = f := by
  funext y
  change f _ = f y
  congr 1
  funext z
  apply Fin.ext
  change 0 + 1 * (y z).val = (y z).val
  omega

/-- One slab: the gather, the load of the words about to be overwritten, the store. -/
theorem wp_slab {α : Type} {Q : α → sProp (MM F)} {rows cols : IVec S16 32}
    {hidx : ∀ a x, ((![rows, cols] : Fin 2 → IVec S16 32) a x).toNat < S32x77.size a} {hl : scrK.view.Loads}
    {off : Fin 2 → ℕ} {inb : ∀ a, off a + S1x16.size a ≤ S32x77.size a} {pay : Vec F S16 .i32 → FVec F S16 .f32}
    {h₁ : scrT.view.LoadsAt (Rect.unit (s := S32x77) off S1x16.size inb).toLoadRect}
    {h₂ : (scrT.access (Rect.unit (s := S32x77) off S1x16.size inb)).Stores Finset.univ}
    {h₃ : (Finset.univ : Finset (Rect.unit (s := S32x77) off S1x16.size inb).shape.Idx) = Finset.univ
      ∨ ∀ a, (Rect.unit (s := S32x77) off S1x16.size inb).stride a = 1}
    {k : PUnit → Prog (TpuEff nD τ sig (Elt F) Λ₀ (tile d i).2) α} (fK : S32x77.Idx → BitVec 32) (g : S32x77.Idx → F .f32) :
    iprop((scrK.view.loc (tile d i) ↦[Finset.univ]{fullShare} fK) ∗ (scrT.view.loc (tile d i) ↦[Finset.univ]{fullShare} g))
      ⊢ iprop((iprop((scrK.view.loc (tile d i) ↦[Finset.univ]{fullShare} fK)
              ∗ (scrT.view.loc (tile d i) ↦[Finset.univ]{fullShare} (scrT.view.writes (Elt F) g
                  [⟨Rect.unit (s := S32x77) off S1x16.size inb,
                    shapeCast S1x16 (pay (loadIdx (F := F) (e := .i32) fK ![rows, cols] hidx)) shapeCasts_S16_S1x16⟩])))
            -∗ wp frame (wpE (defs₀ (F := F)) 𝒱₀ (tile d i) none) Set.univ (k ⟨⟩) Q)
          -∗ wp frame (wpE (defs₀ (F := F)) 𝒱₀ (tile d i) none) Set.univ
              (SparseCore.vectorLoadIdx scrK ![rows, cols] hidx hl >>= fun v =>
                .op (.load scrT (Rect.unit (s := S32x77) off S1x16.size inb).toLoadRect h₁) fun _ =>
                .op (.store scrT (Rect.unit (s := S32x77) off S1x16.size inb) (shapeCast S1x16 (pay v) shapeCasts_S16_S1x16)
                  Finset.univ h₂ h₃) k) Q) := by
  iintro ⟨HK, HT⟩ Hk
  iapply (SparseCore.wp_vectorLoadIdx 𝒱₀ (tile d i) none Set.univ (base := scrK) (S := Finset.univ) (q := fullShare)
    (Finset.subset_univ _)) $$ HK
  iintro HK
  rw [scrK_access]
  iapply (wp_load 𝒱₀ (tile d i) none Set.univ (m := scrT) (S := Finset.univ) (q := fullShare) (Finset.subset_univ _)) $$ HT
  iintro HT
  iapply (wp_store_writes₀ 𝒱₀ (tile d i) none Set.univ (m := scrT) (r := Rect.unit (s := S32x77) off S1x16.size inb)
    (w := shapeCast S1x16 (pay (loadIdx (F := F) (e := .i32) fK ![rows, cols] hidx)) shapeCasts_S16_S1x16) (f := g)
    (S := Finset.univ) (Finset.subset_univ _)) $$ HT
  iintro HT
  iapply Hk
  isplitl [HK]; · iexact HK
  iexact HT

end Run

end Cert.Proof
-- ==== Proof.Parts.lean ====
/-
  The pieces of one class's work, each with what it does: the token row's five slabs loaded and its end found, the table
  rows copied onto the class's output rows, the class's embedding rows fetched, and those the class owns copied over.
-/
module

public import proofs.«01_k».proof.Proof.Slabs
public import proofs.«01_k».proof.Proof.Gen.KernelIdeal.Skeleton

@[expose] public section

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The number of the subcore at grid position `i`. -/
def wid (i : grid0.Coords) : Fin 32 := ⟨16 * (i 0).val + (i 1).val, by
  have h0 : (i 0).val < 2 := (i 0).isLt
  have h1 : (i 1).val < 16 := (i 1).isLt
  omega⟩

/-- A trip of the class loop, as a class of the plane. -/
def trip (t : Fin k0_t1_loop.trips) : Fin 32 := ⟨t.val, t1_lt t⟩

theorem cls_eq (i : grid0.Coords) (t : Fin k0_t1_loop.trips) : cls i t = clsOf (wid i) (trip t) := rfl

section
variable (d : Dev nD) (i : grid0.Coords) (t : Fin k0_t1_loop.trips)

abbrev run1 (v1 : BitVec 32) := k0_part1 (F := F) i embA (Memref.isWhole_whole _) tokA (Memref.isWhole_whole _) tabA (Memref.isWhole_whole _) outE (Memref.isWhole_whole _)
    outT (Memref.isWhole_whole _) scrP (Memref.isWhole_whole _) scrE (Memref.isWhole_whole _) scrK (Memref.isWhole_whole _)
    scrT (Memref.isWhole_whole _) cc0_scoped0 cc0_scoped1 cc0_scoped2 cc0_scoped3 cc0_scoped4 cc0_scoped5 cc0_scoped6 cc0_scoped7
    cc0_scoped8 cc0_scoped9 cc0_scoped10 cc0_scoped11 v1 lanes 0#32 1#32 t
abbrev run2 (v7 : BitVec 32) (v15 v17 : Vec F S16 .i32) (v27 : BitVec 32) (v42 : IVec S16 32) (v44 : IVec S16 1) :=
  k0_part2 (F := F) i embA (Memref.isWhole_whole _) tokA (Memref.isWhole_whole _) tabA (Memref.isWhole_whole _) outE (Memref.isWhole_whole _)
    outT (Memref.isWhole_whole _) scrP (Memref.isWhole_whole _) scrE (Memref.isWhole_whole _) scrK (Memref.isWhole_whole _)
    scrT (Memref.isWhole_whole _) cc0_scoped0 cc0_scoped1 cc0_scoped2 cc0_scoped3 cc0_scoped4 cc0_scoped5 cc0_scoped6 cc0_scoped7
    cc0_scoped8 cc0_scoped9 cc0_scoped10 cc0_scoped11 lanes t v7 v15 v17 v27 v42 v44
abbrev run3 (v69 : BitVec 32) := k0_part3 (F := F) i embA (Memref.isWhole_whole _) tokA (Memref.isWhole_whole _) tabA (Memref.isWhole_whole _) outE (Memref.isWhole_whole _)
    outT (Memref.isWhole_whole _) scrP (Memref.isWhole_whole _) scrE (Memref.isWhole_whole _) scrK (Memref.isWhole_whole _)
    scrT (Memref.isWhole_whole _) cc0_scoped0 cc0_scoped1 cc0_scoped2 cc0_scoped3 cc0_scoped4 cc0_scoped5 cc0_scoped6 cc0_scoped7
    cc0_scoped8 cc0_scoped9 cc0_scoped10 cc0_scoped11 t v69
abbrev run4 (v7 v69 : BitVec 32) (hw : k0_chk1 i t v69) (v71 v88 c v89 : BitVec 32) :=
  k0_part4 (F := F) i embA (Memref.isWhole_whole _) tokA (Memref.isWhole_whole _) tabA (Memref.isWhole_whole _) outE (Memref.isWhole_whole _)
    outT (Memref.isWhole_whole _) scrP (Memref.isWhole_whole _) scrE (Memref.isWhole_whole _) scrK (Memref.isWhole_whole _)
    scrT (Memref.isWhole_whole _) cc0_scoped0 cc0_scoped1 cc0_scoped2 cc0_scoped3 cc0_scoped4 cc0_scoped5 cc0_scoped6 cc0_scoped7
    cc0_scoped8 cc0_scoped9 cc0_scoped10 cc0_scoped11 lanes t v7 v69 hw v71 v88 c v89
abbrev run5 (a v69 : BitVec 32) (v107 : IVec S16 32) (v109 v111 v114 : IVec S16 1) :=
  k0_part5 (F := F) i embA (Memref.isWhole_whole _) tokA (Memref.isWhole_whole _) tabA (Memref.isWhole_whole _) outE (Memref.isWhole_whole _)
    outT (Memref.isWhole_whole _) scrP (Memref.isWhole_whole _) scrE (Memref.isWhole_whole _) scrK (Memref.isWhole_whole _)
    scrT (Memref.isWhole_whole _) cc0_scoped0 cc0_scoped1 cc0_scoped2 cc0_scoped3 cc0_scoped4 cc0_scoped5 cc0_scoped6 cc0_scoped7
    cc0_scoped8 cc0_scoped9 cc0_scoped10 cc0_scoped11 lanes t a v69 v107 v109 v111 v114
abbrev run6 (a v69 : BitVec 32) (v148 : IVec S16 1) (v156 : IVec S16 32) (v157 : IVec S16 1) :=
  k0_part6 (F := F) i embA (Memref.isWhole_whole _) tokA (Memref.isWhole_whole _) tabA (Memref.isWhole_whole _) outE (Memref.isWhole_whole _)
    outT (Memref.isWhole_whole _) scrP (Memref.isWhole_whole _) scrE (Memref.isWhole_whole _) scrK (Memref.isWhole_whole _)
    scrT (Memref.isWhole_whole _) cc0_scoped0 cc0_scoped1 cc0_scoped2 cc0_scoped3 cc0_scoped4 cc0_scoped5 cc0_scoped6 cc0_scoped7
    cc0_scoped8 cc0_scoped9 cc0_scoped10 cc0_scoped11 lanes t a v69 v148 v156 v157
abbrev run7 (a v69 : BitVec 32) (v197 : IVec S16 32) (c : BitVec 32) :=
  k0_part7 (F := F) i embA (Memref.isWhole_whole _) tokA (Memref.isWhole_whole _) tabA (Memref.isWhole_whole _) outE (Memref.isWhole_whole _)
    outT (Memref.isWhole_whole _) scrP (Memref.isWhole_whole _) scrE (Memref.isWhole_whole _) scrK (Memref.isWhole_whole _)
    scrT (Memref.isWhole_whole _) cc0_scoped0 cc0_scoped1 cc0_scoped2 cc0_scoped3 cc0_scoped4 cc0_scoped5 cc0_scoped6 cc0_scoped7
    cc0_scoped8 cc0_scoped9 cc0_scoped10 cc0_scoped11 lanes t a v69 v197 c

/-! ## What the pieces work on -/

abbrev atP (f : S77x512.Idx → F .f32) : sProp (MM F) := scrP.view.loc (tile d i) ↦[Finset.univ]{fullShare} f
abbrev atE (f : S60x512.Idx → F .f32) : sProp (MM F) := scrE.view.loc (tile d i) ↦[Finset.univ]{fullShare} f
abbrev atK (f : S32x77.Idx → BitVec 32) : sProp (MM F) := scrK.view.loc (tile d i) ↦[Finset.univ]{fullShare} f
abbrev atT (f : S32x77.Idx → F .f32) : sProp (MM F) := scrT.view.loc (tile d i) ↦[Finset.univ]{fullShare} f
abbrev atOut (f : S78848x512.Idx → F .f32) : sProp (MM F) := outE.view.loc (tile d i) ↦[blk (wid i).val]{fullShare} f
abbrev atEmb (q : PosShare TreeShare) (f : S78848x512.Idx → F .f32) : sProp (MM F) :=
  embA.view.loc (tile d i) ↦[Finset.univ]{q} f
abbrev atSem (s : DmaSems sig S_) : sProp (MM F) := semVal (tile d i, .dma s.sem) 0
abbrev waits (O : CellTallies nD τ sig (HIx 1)) : sProp (MM F) := Transfers.MayWaits (tile d i) (none : HIx 1) O

variable (emb : S78848x512.Idx → F .f32) (tok : S1024x77.Idx → BitVec 32) (tab : S77x512.Idx → F .f32)

/-! ## The end of the class's text -/

theorem load_row {off : Fin 2 → ℕ} {o : ℕ} (ho : o + 16 ≤ 77) (inb : ∀ a, off a + S1x16.size a ≤ S32x77.size a)
    (hoff : off = ![t.val, o]) (k : Fin 16) :
    (scrK.view.readAt (Elt F) (Rect.unit (s := S32x77) off S1x16.size inb).toLoadRect (rowsK tok (wid i)) : S1x16.Idx → BitVec 32)
      (ix2 0 k) = tokRow tok (cls i t) ⟨o + k.val, by omega⟩ := by
  subst hoff
  change rowsK tok (wid i) _ = _
  rw [cls_eq]
  unfold tokRow
  rw [← rowsK_at tok (wid i)]
  congr 1
  funext z
  apply Fin.ext
  match z with
  | 0 => change t.val + 1 * 0 = t.val; omega
  | 1 => change o + 1 * k.val = o + k.val; omega

theorem run1_spec (v1 : BitVec 32) :
    atK d i (rowsK tok (wid i)) ⊢ wp frame (wpE (defs₀ (F := F)) 𝒱₀ (tile d i) none) Set.univ (run1 (F := F) i t v1)
      fun r => iprop(⌜r.1 = BitVec.ofNat 32 t.val
          ∧ extractAt ![15] (k0_pay11 lanes r.2.2.1 r.2.2.2.1 r.2.2.2.2.1 r.2.2.2.2.2.1 r.2.2.2.2.2.2) inpos_S16_p15
            = eW (eotAt tok (cls i t)).val⌝ ∗ atK d i (rowsK tok (wid i))) := by
  unfold run1
  rw [k0_part1_eq_skeleton]; unfold k0_part1_skel
  simp only [Prog.lift, Prog.bind_op, Prog.bind_ret, Prog.pure_eq_ret]
  iintro HK
  iapply (wp_load 𝒱₀ (tile d i) none Set.univ (m := scrK) (S := Finset.univ) (q := fullShare) (Finset.subset_univ _)) $$ HK
  iintro HK
  iapply (wp_load 𝒱₀ (tile d i) none Set.univ (m := scrK) (S := Finset.univ) (q := fullShare) (Finset.subset_univ _)) $$ HK
  iintro HK
  iapply (wp_load 𝒱₀ (tile d i) none Set.univ (m := scrK) (S := Finset.univ) (q := fullShare) (Finset.subset_univ _)) $$ HK
  iintro HK
  iapply (wp_load 𝒱₀ (tile d i) none Set.univ (m := scrK) (S := Finset.univ) (q := fullShare) (Finset.subset_univ _)) $$ HK
  iintro HK
  iapply (wp_load 𝒱₀ (tile d i) none Set.univ (m := scrK) (S := Finset.univ) (q := fullShare) (Finset.subset_univ _)) $$ HK
  iintro HK
  rw [wp_ret]; imodintro
  isplitr
  · ipureintro
    refine ⟨iv_val _ (lt_trans (t1_lt t) (by omega)), ?_⟩
    refine endWord_eq (F := F) _ _ _ _ _ (tokRow tok (cls i t)) (fun k => ?_) (load_row i t tok (by omega) _ (k0_off3_eq t))
      (load_row i t tok (by omega) _ (k0_off4_eq t)) (load_row i t tok (by omega) _ (k0_off5_eq t)) (load_row i t tok (by omega) _ (k0_off6_eq t))
    refine (load_row i t tok (o := 0) (by omega) _ (k0_off2_eq t) k).trans (congrArg _ (Fin.ext (Nat.zero_add _)))
  · iexact HK

/-! ## The copies -/

variable {O : CellTallies nD τ sig (HIx 1)} {W : Waits sig (HIx 1)} {e : ℕ} (h5 : 5 ≤ e) (h60 : e < 60)

theorem wid_low : 2464 * (wid i).val ≤ 77 * (cls i t).val := by
  simp only [wid, cls]; omega

theorem wid_high : 77 * (cls i t).val + 77 ≤ 2464 * (wid i).val + 2464 := by
  have := t1_lt t
  simp only [wid, cls]; omega

/-- A copy of `k` of the class's rows onto its output rows, and the wait for it. -/
theorem wp_rows (k a b : ℕ) {off off' : Fin 2 → ℕ} {inb : ∀ x : Fin 2, off x + (![k, 512] : Fin 2 → ℕ) x ≤ S78848x512.size x}
    {hs : ∀ x, (Rect.unit (s := S78848x512) off ![k, 512] inb).stride x = 1}
    {inb' : ∀ x : Fin 2, off' x + (![k, 512] : Fin 2 → ℕ) x ≤ S60x512.size x}
    {hs' : ∀ x, (Rect.unit (s := S60x512) off' ![k, 512] inb').stride x = 1} {s : DmaSems sig S_}
    {h₁ : (scrE.slice (Rect.unit (s := S60x512) off' ![k, 512] inb') hs').view.WordExact}
    {h₂ : (outE.slice (Rect.unit (s := S78848x512) off ![k, 512] inb) hs).view.WordExact}
    {h₃ : DmaTarget.Typed (nD := nD) (p := (tile d i).2) (.core .vmem) (.dma s.sem) (.here (outE.slice (Rect.unit (s := S78848x512) off ![k, 512] inb) hs))}
    {h₄ : (scrE.slice (Rect.unit (s := S60x512) off' ![k, 512] inb') hs').view.WordExact}
    {h₅ : (outE.slice (Rect.unit (s := S78848x512) off ![k, 512] inb) hs).view.WordExact}
    {α : Type} {Q : α → sProp (MM F)} {kk : PUnit → Prog (TpuEff nD τ sig (Elt F) Λ₀ (tile d i).2) α}
    {A : ℕ → Prop} {f : S78848x512.Idx → F .f32} (hk : 0 < k) (hak : a + k ≤ 77)
    (hoff : off = ![77 * (cls i t).val + a, 0]) (hoff' : off' = ![b, 0]) (hb : b + k ≤ 60)
    (hpos : ∀ p, a ≤ p → p < a + k → pos e p = b + (p - a)) (hf : Stage emb tok tab (wid i).val (cls i t) e h60 A f) :
    iprop(waits d i O ∗ atE d i (rowsE emb (cls i t)) ∗ atOut d i f ∗ atSem d i s ∗ Owing (tile d i) O W)
      ⊢ iprop((iprop(atE d i (rowsE emb (cls i t))
              ∗ (∃ f', ⌜Stage emb tok tab (wid i).val (cls i t) e h60 (fun p => A p ∨ (a ≤ p ∧ p < a + k)) f'⌝ ∗ atOut d i f')
              ∗ atSem d i s ∗ Owing (tile d i) O W)
            -∗ wp frame (wpE (defs₀ (F := F)) 𝒱₀ (tile d i) none) Set.univ (kk ⟨⟩) Q)
          -∗ wp frame (wpE (defs₀ (F := F)) 𝒱₀ (tile d i) none) Set.univ
            (.op (.enqueueDma (scrE.slice (Rect.unit (s := S60x512) off' ![k, 512] inb') hs')
                (.here (outE.slice (Rect.unit (s := S78848x512) off ![k, 512] inb) hs)) (.dma s.sem) h₁ h₂ h₃) fun _ =>
              .op (.waitDma2 s.sem (scrE.slice (Rect.unit (s := S60x512) off' ![k, 512] inb') hs')
                (outE.slice (Rect.unit (s := S78848x512) off ![k, 512] inb) hs) h₄ h₅) kk) Q) := by
  have hlow := wid_low i t
  have hhigh := wid_high i t
  have hN : 0 < (⟨2, ![k, 512]⟩ : Shape).numel := by
    simp only [Shape.numel, Fin.prod_univ_two]
    change 0 < k * 512
    omega
  iintro ⟨#Hmw, HE, HO, Hs, HW⟩ Hk
  iapply (wp_copy (thr := tile d i) (.core .vmem) .hbm (⟨2, ![k, 512]⟩ : Shape) .f32
    (src := scrE.slice (Rect.unit (s := S60x512) off' ![k, 512] inb') hs') (dst := outE.slice (Rect.unit (s := S78848x512) off ![k, 512] inb) hs)
    (q := fullShare) (fs := rowsE emb (cls i t)) (fd := f)
    (Ss := Finset.univ) (Sd := blk (wid i).val) hN (Finset.subset_univ _)
    (outE_slice_sub inb hs hoff (by omega) (by omega))) $$ [HE HO Hs HW]
  · isplitr; · iexact Hmw
    isplitl [HE]; · iexact HE
    isplitl [HO]; · iexact HO
    isplitl [Hs]; · iexact Hs
    iexact HW
  iintro ⟨HE, HO, Hs, HW⟩
  iapply Hk
  isplitl [HE]; · iexact HE
  isplitl [HO]
  · iexists _
    isplitr
    · ipureintro
      exact stage_rows inb hs inb' hs' hoff hoff' hb hpos hf
    · iexact HO
  isplitl [Hs]; · iexact Hs
  iexact HW

include h5 in
/-- The table copy. -/
theorem run2_spec (v7 : BitVec 32) (v15 v17 : Vec F S16 .i32) (v27 : BitVec 32) (v42 : IVec S16 32) (v44 : IVec S16 1)
    (hv : extractAt ![15] (k0_pay11 lanes v15 v17 v27 v42 v44) inpos_S16_p15 = eW e) {f : S78848x512.Idx → F .f32}
    (hf : Done emb tok tab (wid i).val (77 * (cls i t).val) f) :
    iprop(waits d i O ∗ atP d i tab ∗ atOut d i f ∗ atSem d i cc0_scoped2 ∗ Owing (tile d i) O W)
      ⊢ wp frame (wpE (defs₀ (F := F)) 𝒱₀ (tile d i) none) Set.univ (run2 (F := F) i t v7 v15 v17 v27 v42 v44)
          fun r => iprop(⌜r.1 = eW e⌝ ∗ atP d i tab ∗ (∃ f', ⌜Stage emb tok tab (wid i).val (cls i t) e h60 (fun _ => False) f'⌝ ∗ atOut d i f')
            ∗ atSem d i cc0_scoped2 ∗ Owing (tile d i) O W) := by
  unfold run2
  rw [k0_part2_eq_skeleton]; unfold k0_part2_skel
  simp only [Prog.lift, Prog.bind_op, Prog.bind_ret, Prog.pure_eq_ret]
  rw [wp_assume_of _ _ _ _ (by rw [hv]; exact chk1_holds i t e h5 h60)]
  iintro ⟨#Hmw, HP, HO, Hs, HW⟩
  have hlow := wid_low i t
  have hhigh := wid_high i t
  iapply (wp_copy (thr := tile d i) (.core .vmem) .hbm S76x512 .f32
    (src := scrP.slice (Rect.unit (s := S77x512) ![1, 0] S76x512.size inb_S77x512_S76x512_1_0) (fun _ => rfl))
    (dst := outE.slice (Rect.unit (s := S78848x512) (k0_off7 i t) S76x512.size (k0_off7_inb i t)) (fun _ => rfl)) (q := fullShare) (fs := tab) (fd := f)
    (Ss := Finset.univ) (Sd := blk (wid i).val) (by decide) (Finset.subset_univ _)
    (outE_slice_sub (k0_off7_inb i t) _ (off7_eq i t) (by omega) (by omega))) $$ [HP HO Hs HW]
  · isplitr; · iexact Hmw
    isplitl [HP]; · iexact HP
    isplitl [HO]; · iexact HO
    isplitl [Hs]; · iexact Hs
    iexact HW
  iintro ⟨HP, HO, Hs, HW⟩
  rw [wp_ret]; imodintro
  isplitr; · ipureintro; exact hv
  isplitl [HP]; · iexact HP
  isplitl [HO]
  · iexists _
    isplitr
    · ipureintro
      exact stage_table (k0_off7_inb i t) (fun _ => rfl) inb_S77x512_S76x512_1_0 (fun _ => rfl) (off7_eq i t) rfl hf
    · iexact HO
  isplitl [Hs]; · iexact Hs
  iexact HW

/-- The row buffer after the fetch. -/
theorem fetched (g : S60x512.Idx → F .f32) (inb : ∀ x : Fin 2, k0_off8 i t x + S60x512.size x ≤ S78848x512.size x)
    (hs : ∀ x, (Rect.unit (s := S78848x512) (k0_off8 i t) S60x512.size inb).stride x = 1) :
    (scrE.view.write (Elt F) g ((embA.slice (Rect.unit (s := S78848x512) (k0_off8 i t) S60x512.size inb) hs).view.read (Elt F) emb) Finset.univ
      : S60x512.Idx → F .f32) = rowsE emb (cls i t) := by
  refine (View.write_whole_univ (Val := Elt F) cc0_scratch1 g _).trans ?_
  funext y
  obtain ⟨r, c, rfl⟩ : ∃ (r : Fin 60) (c : Fin 512), y = ix2 r c := ⟨y 0, y 1, eq_ix2 y⟩
  have hn := cls_lt i t
  exact embA_read (F := F) inb hs (off8_eq i t) emb r c (by omega)

/-- The class's rows fetched, and row 0 copied over. -/
theorem run3_spec (v69 : BitVec 32) {q : PosShare TreeShare} {f : S78848x512.Idx → F .f32} {g : S60x512.Idx → F .f32}
    (hf : Stage emb tok tab (wid i).val (cls i t) e h60 (fun _ => False) f) :
    iprop(waits d i O ∗ atEmb d i q emb ∗ atE d i g ∗ atOut d i f ∗ atSem d i cc0_scoped3 ∗ atSem d i cc0_scoped4 ∗ Owing (tile d i) O W)
      ⊢ wp frame (wpE (defs₀ (F := F)) 𝒱₀ (tile d i) none) Set.univ (run3 (F := F) i t v69)
          fun _ => iprop(atEmb d i q emb ∗ atE d i (rowsE emb (cls i t))
            ∗ (∃ f', ⌜Stage emb tok tab (wid i).val (cls i t) e h60 (fun p => p = 0) f'⌝ ∗ atOut d i f')
            ∗ atSem d i cc0_scoped3 ∗ atSem d i cc0_scoped4 ∗ Owing (tile d i) O W) := by
  unfold run3
  rw [k0_part3_eq_skeleton]; unfold k0_part3_skel
  simp only [Prog.lift, Prog.bind_op, Prog.bind_ret, Prog.pure_eq_ret]
  iintro ⟨#Hmw, HI, HE, HO, Hs3, Hs4, HW⟩
  iapply (wp_copy (thr := tile d i) .hbm (.core .vmem) S60x512 .f32 (q := q) (fs := emb) (fd := g)
    (Ss := Finset.univ) (Sd := Finset.univ) (by decide) (Finset.subset_univ _) (Finset.subset_univ _)) $$ [HI HE Hs3 HW]
  · isplitr; · iexact Hmw
    isplitl [HI]; · iexact HI
    isplitl [HE]; · iexact HE
    isplitl [Hs3]; · iexact Hs3
    iexact HW
  iintro ⟨HI, HE, Hs3, HW⟩
  ihave HE := (Entails.of_eq (congrArg (atE (F := F) d i) (fetched i t emb g _ _))) $$ HE
  iapply (wp_rows (e := e) (O := O) (W := W) d i t emb tok tab h60 1 0 0 (by omega) (by omega) (off9_eq i t) rfl (by omega) (fun p _ hp => by
      obtain rfl : p = 0 := by omega
      rfl) hf) $$ [HE HO Hs4 HW]
  · isplitr; · iexact Hmw
    isplitl [HE]; · iexact HE
    isplitl [HO]; · iexact HO
    isplitl [Hs4]; · iexact Hs4
    iexact HW
  iintro ⟨HE, ⟨%f', %hf', HO⟩, Hs4, HW⟩
  rw [wp_ret]; imodintro
  isplitl [HI]; · iexact HI
  isplitl [HE]; · iexact HE
  isplitl [HO]
  · iexists f'
    isplitr
    · ipureintro
      exact hf'.congr fun p _ => by simp only [false_or]; omega
    · iexact HO
  isplitl [Hs3]; · iexact Hs3
  isplitl [Hs4]; · iexact Hs4
  iexact HW

/-- What the class's copies work on: the row buffer, the output block so far and what the subcore owes. -/
def Built (O : CellTallies nD τ sig (HIx 1)) (W : Waits sig (HIx 1)) (e : ℕ) (h60 : e < 60) (A : ℕ → Prop) : sProp (MM F) :=
  iprop(atE d i (rowsE emb (cls i t)) ∗ (∃ f, ⌜Stage emb tok tab (wid i).val (cls i t) e h60 A f⌝ ∗ atOut d i f)
    ∗ Owing (tile d i) O W)

theorem Built.congr {A B : ℕ → Prop} (h : ∀ p, p < 77 → (A p ↔ B p)) :
    Built d i t emb tok tab O W e h60 A ⊢ Built d i t emb tok tab O W e h60 B := by
  unfold Built
  iintro ⟨HE, ⟨%f, %hf, HO⟩, HW⟩
  isplitl [HE]; · iexact HE
  isplitl [HO]
  · iexists f
    isplitr; · ipureintro; exact hf.congr h
    iexact HO
  iexact HW

/-- `wp_rows` over `Built`. -/
theorem wp_built (k a b : ℕ) {off off' : Fin 2 → ℕ} {inb : ∀ x : Fin 2, off x + (![k, 512] : Fin 2 → ℕ) x ≤ S78848x512.size x}
    {hs : ∀ x, (Rect.unit (s := S78848x512) off ![k, 512] inb).stride x = 1}
    {inb' : ∀ x : Fin 2, off' x + (![k, 512] : Fin 2 → ℕ) x ≤ S60x512.size x}
    {hs' : ∀ x, (Rect.unit (s := S60x512) off' ![k, 512] inb').stride x = 1} {s : DmaSems sig S_}
    {h₁ : (scrE.slice (Rect.unit (s := S60x512) off' ![k, 512] inb') hs').view.WordExact}
    {h₂ : (outE.slice (Rect.unit (s := S78848x512) off ![k, 512] inb) hs).view.WordExact}
    {h₃ : DmaTarget.Typed (nD := nD) (p := (tile d i).2) (.core .vmem) (.dma s.sem) (.here (outE.slice (Rect.unit (s := S78848x512) off ![k, 512] inb) hs))}
    {h₄ : (scrE.slice (Rect.unit (s := S60x512) off' ![k, 512] inb') hs').view.WordExact}
    {h₅ : (outE.slice (Rect.unit (s := S78848x512) off ![k, 512] inb) hs).view.WordExact}
    {α : Type} {Q : α → sProp (MM F)} {kk : PUnit → Prog (TpuEff nD τ sig (Elt F) Λ₀ (tile d i).2) α}
    {A : ℕ → Prop} (hk : 0 < k) (hak : a + k ≤ 77)
    (hoff : off = ![77 * (cls i t).val + a, 0]) (hoff' : off' = ![b, 0]) (hb : b + k ≤ 60)
    (hpos : ∀ p, a ≤ p → p < a + k → pos e p = b + (p - a)) :
    iprop(waits d i O ∗ Built d i t emb tok tab O W e h60 A ∗ atSem d i s)
      ⊢ iprop((iprop(Built d i t emb tok tab O W e h60 (fun p => A p ∨ (a ≤ p ∧ p < a + k)) ∗ atSem d i s)
            -∗ wp frame (wpE (defs₀ (F := F)) 𝒱₀ (tile d i) none) Set.univ (kk ⟨⟩) Q)
          -∗ wp frame (wpE (defs₀ (F := F)) 𝒱₀ (tile d i) none) Set.univ
            (.op (.enqueueDma (scrE.slice (Rect.unit (s := S60x512) off' ![k, 512] inb') hs')
                (.here (outE.slice (Rect.unit (s := S78848x512) off ![k, 512] inb) hs)) (.dma s.sem) h₁ h₂ h₃) fun _ =>
              .op (.waitDma2 s.sem (scrE.slice (Rect.unit (s := S60x512) off' ![k, 512] inb') hs')
                (outE.slice (Rect.unit (s := S78848x512) off ![k, 512] inb) hs) h₄ h₅) kk) Q) := by
  unfold Built
  iintro ⟨#Hmw, ⟨HE, ⟨%f, %hf, HO⟩, HW⟩, Hs⟩ Hk
  iapply (wp_rows (e := e) (O := O) (W := W) d i t emb tok tab h60 k a b hk hak hoff hoff' hb hpos hf) $$ [HE HO Hs HW]
  · isplitr; · iexact Hmw
    isplitl [HE]; · iexact HE
    isplitl [HO]; · iexact HO
    isplitl [Hs]; · iexact Hs
    iexact HW
  iintro ⟨HE, HO, Hs, HW⟩
  iapply Hk
  isplitr [Hs]
  · isplitl [HE]; · iexact HE
    isplitl [HO]; · iexact HO
    iexact HW
  iexact Hs

/-- The middle positions the eights loop has copied after `k` trips. -/
def eights (k p : ℕ) : Prop := p = 0 ∨ (9 ≤ p ∧ p < 9 + 8 * k)

/-- And those after the last, overlapping eight. -/
def tailed (e p : ℕ) : Prop := eights ((e - 1) / 8) p ∨ ((8 * ((e - 1) / 8) < e - 1 ∧ 8 ≤ e - 1) ∧ e ≤ p ∧ p < e + 8)

/-- And after the two overlapping fours of a short text. -/
def middle (e p : ℕ) : Prop := p = 0 ∨ (9 ≤ p ∧ p < 8 + e)

include h5 in
theorem middle_of_tailed (p : ℕ) (h : ¬ e - 1 < 8) : tailed e p ↔ middle e p := by
  unfold tailed eights middle; omega

include h5 in
theorem middle_of_fours (p : ℕ) (h : e - 1 < 8) :
    ((tailed e p ∨ (9 ≤ p ∧ p < 9 + 4)) ∨ (e + 4 ≤ p ∧ p < e + 4 + 4)) ↔ middle e p := by
  unfold tailed eights middle; omega

theorem own_of_middle (p : ℕ) : (middle e p ∨ (16 + e ≤ p ∧ p < 16 + e + 1)) ↔ own e p := by
  unfold middle own; omega

theorem pos_mid {p : ℕ} (h : 9 ≤ p) (h' : p < 8 + e) : pos e p = p - 8 := by
  unfold pos; split_ifs <;> omega

include h5 in
/-- The last eight middle rows, which overlap the loop's when the text's length is no multiple of eight. -/
theorem wp_eight (hw : k0_chk1 i t (eW e)) {α : Type} {Q : α → sProp (MM F)} {kk : Prog (TpuEff nD τ sig (Elt F) Λ₀ (tile d i).2) α}
    {s : DmaSems sig S_}
    {h₁ : ∀ h : k0_cond1 (eW e) = 1#1, (scrE.slice (Rect.unit (s := S60x512) (k0_off14 (eW e)) S8x512.size (k0_off14_inb i t (eW e) hw h)) (fun _ => rfl)).view.WordExact} {h₂ : ∀ h : k0_cond1 (eW e) = 1#1, (outE.slice (Rect.unit (s := S78848x512) (k0_off15 i t (eW e)) S8x512.size (k0_off15_inb i t (eW e) hw h)) (fun _ => rfl)).view.WordExact}
    {h₃ : ∀ h : k0_cond1 (eW e) = 1#1, DmaTarget.Typed (nD := nD) (p := (tile d i).2) (.core .vmem) (.dma s.sem) (.here (outE.slice (Rect.unit (s := S78848x512) (k0_off15 i t (eW e)) S8x512.size (k0_off15_inb i t (eW e) hw h)) (fun _ => rfl)))}
    {h₄ : ∀ h : k0_cond1 (eW e) = 1#1, (scrE.slice (Rect.unit (s := S60x512) (k0_off14 (eW e)) S8x512.size (k0_off14_inb i t (eW e) hw h)) (fun _ => rfl)).view.WordExact} {h₅ : ∀ h : k0_cond1 (eW e) = 1#1, (outE.slice (Rect.unit (s := S78848x512) (k0_off15 i t (eW e)) S8x512.size (k0_off15_inb i t (eW e) hw h)) (fun _ => rfl)).view.WordExact} :
    iprop(waits d i O ∗ Built d i t emb tok tab O W e h60 (eights ((e - 1) / 8)) ∗ atSem d i s)
      ⊢ iprop((iprop(Built d i t emb tok tab O W e h60 (tailed e) ∗ atSem d i s)
            -∗ wp frame (wpE (defs₀ (F := F)) 𝒱₀ (tile d i) none) Set.univ kk Q)
          -∗ wp frame (wpE (defs₀ (F := F)) 𝒱₀ (tile d i) none) Set.univ
            (if h : k0_cond1 (eW e) = 1#1 then
              (.op (.enqueueDma (scrE.slice (Rect.unit (s := S60x512) (k0_off14 (eW e)) S8x512.size (k0_off14_inb i t (eW e) hw h)) (fun _ => rfl))
                (.here (outE.slice (Rect.unit (s := S78848x512) (k0_off15 i t (eW e)) S8x512.size (k0_off15_inb i t (eW e) hw h)) (fun _ => rfl)))
                (.dma s.sem) (h₁ h) (h₂ h) (h₃ h)) fun _ =>
              .op (.waitDma2 s.sem (scrE.slice (Rect.unit (s := S60x512) (k0_off14 (eW e)) S8x512.size (k0_off14_inb i t (eW e) hw h)) (fun _ => rfl))
                (outE.slice (Rect.unit (s := S78848x512) (k0_off15 i t (eW e)) S8x512.size (k0_off15_inb i t (eW e) hw h)) (fun _ => rfl)) (h₄ h) (h₅ h))
                fun _ => kk)
            else kk) Q) := by
  iintro ⟨#Hmw, HB, Hs⟩ Hk
  by_cases hc : k0_cond1 (eW e) = 1#1
  · have hc' := (cond1_iff e h5 h60).1 hc
    simp only [dif_pos hc]
    iapply (wp_built (e := e) (O := O) (W := W) d i t emb tok tab h60 8 e (e - 8) (by omega) (by omega)
      (off15_eq i t e h5 h60 (by omega)) (off14_eq e h5 h60 (by omega)) (by omega)
      (fun p h h' => (pos_mid (by omega) (by omega)).trans (by omega))) $$ [HB Hs]
    · isplitr; · iexact Hmw
      isplitl [HB]; · iexact HB
      iexact Hs
    iintro ⟨HB, Hs⟩
    iapply Hk
    isplitl [HB]
    · iapply (Built.congr d i t emb tok tab h60 (fun p _ => by unfold tailed; unfold eights; simp only [nf] at hc'; omega)) $$ HB
    · iexact Hs
  · have hc' := mt (cond1_iff e h5 h60).2 hc
    simp only [dif_neg hc]
    iapply Hk
    isplitl [HB]
    · iapply (Built.congr d i t emb tok tab h60 (fun p _ => by unfold tailed; unfold eights; simp only [nf] at hc'; omega)) $$ HB
    · iexact Hs

include h5 in
/-- The two overlapping fours of a short text. -/
theorem wp_fours (hw : k0_chk1 i t (eW e)) {α : Type} {Q : α → sProp (MM F)} {kk : Prog (TpuEff nD τ sig (Elt F) Λ₀ (tile d i).2) α}
    {s s' : DmaSems sig S_}
    {h₁ : (scrE.slice (Rect.unit (s := S60x512) ![1, 0] S4x512.size inb_S60x512_S4x512_1_0) (fun _ => rfl)).view.WordExact} {h₂ : (outE.slice (Rect.unit (s := S78848x512) (k0_off16 i t) S4x512.size (k0_off16_inb i t)) (fun _ => rfl)).view.WordExact}
    {h₃ : DmaTarget.Typed (nD := nD) (p := (tile d i).2) (.core .vmem) (.dma s.sem) (.here (outE.slice (Rect.unit (s := S78848x512) (k0_off16 i t) S4x512.size (k0_off16_inb i t)) (fun _ => rfl)))}
    {h₄ : (scrE.slice (Rect.unit (s := S60x512) ![1, 0] S4x512.size inb_S60x512_S4x512_1_0) (fun _ => rfl)).view.WordExact} {h₅ : (outE.slice (Rect.unit (s := S78848x512) (k0_off16 i t) S4x512.size (k0_off16_inb i t)) (fun _ => rfl)).view.WordExact}
    {g₁ : ∀ h : k0_cond2 (eW e) = 1#1, (scrE.slice (Rect.unit (s := S60x512) (k0_off17 (eW e)) S4x512.size (k0_off17_inb i t (eW e) hw h)) (fun _ => rfl)).view.WordExact} {g₂ : ∀ h : k0_cond2 (eW e) = 1#1, (outE.slice (Rect.unit (s := S78848x512) (k0_off18 i t (eW e)) S4x512.size (k0_off18_inb i t (eW e) hw h)) (fun _ => rfl)).view.WordExact}
    {g₃ : ∀ h : k0_cond2 (eW e) = 1#1, DmaTarget.Typed (nD := nD) (p := (tile d i).2) (.core .vmem) (.dma s'.sem) (.here (outE.slice (Rect.unit (s := S78848x512) (k0_off18 i t (eW e)) S4x512.size (k0_off18_inb i t (eW e) hw h)) (fun _ => rfl)))}
    {g₄ : ∀ h : k0_cond2 (eW e) = 1#1, (scrE.slice (Rect.unit (s := S60x512) (k0_off17 (eW e)) S4x512.size (k0_off17_inb i t (eW e) hw h)) (fun _ => rfl)).view.WordExact} {g₅ : ∀ h : k0_cond2 (eW e) = 1#1, (outE.slice (Rect.unit (s := S78848x512) (k0_off18 i t (eW e)) S4x512.size (k0_off18_inb i t (eW e) hw h)) (fun _ => rfl)).view.WordExact} :
    iprop(waits d i O ∗ Built d i t emb tok tab O W e h60 (tailed e) ∗ atSem d i s ∗ atSem d i s')
      ⊢ iprop((iprop(Built d i t emb tok tab O W e h60 (middle e) ∗ atSem d i s ∗ atSem d i s')
            -∗ wp frame (wpE (defs₀ (F := F)) 𝒱₀ (tile d i) none) Set.univ kk Q)
          -∗ wp frame (wpE (defs₀ (F := F)) 𝒱₀ (tile d i) none) Set.univ
            (if h : k0_cond2 (eW e) = 1#1 then
              (.op (.enqueueDma (scrE.slice (Rect.unit (s := S60x512) ![1, 0] S4x512.size inb_S60x512_S4x512_1_0) (fun _ => rfl))
                (.here (outE.slice (Rect.unit (s := S78848x512) (k0_off16 i t) S4x512.size (k0_off16_inb i t)) (fun _ => rfl)))
                (.dma s.sem) h₁ h₂ h₃) fun _ =>
              .op (.waitDma2 s.sem (scrE.slice (Rect.unit (s := S60x512) ![1, 0] S4x512.size inb_S60x512_S4x512_1_0) (fun _ => rfl))
                (outE.slice (Rect.unit (s := S78848x512) (k0_off16 i t) S4x512.size (k0_off16_inb i t)) (fun _ => rfl)) h₄ h₅) fun _ =>
              .op (.enqueueDma (scrE.slice (Rect.unit (s := S60x512) (k0_off17 (eW e)) S4x512.size (k0_off17_inb i t (eW e) hw h)) (fun _ => rfl))
                (.here (outE.slice (Rect.unit (s := S78848x512) (k0_off18 i t (eW e)) S4x512.size (k0_off18_inb i t (eW e) hw h)) (fun _ => rfl)))
                (.dma s'.sem) (g₁ h) (g₂ h) (g₃ h)) fun _ =>
              .op (.waitDma2 s'.sem (scrE.slice (Rect.unit (s := S60x512) (k0_off17 (eW e)) S4x512.size (k0_off17_inb i t (eW e) hw h)) (fun _ => rfl))
                (outE.slice (Rect.unit (s := S78848x512) (k0_off18 i t (eW e)) S4x512.size (k0_off18_inb i t (eW e) hw h)) (fun _ => rfl)) (g₄ h) (g₅ h))
                fun _ => kk)
            else kk) Q) := by
  iintro ⟨#Hmw, HB, Hs8, Hs9⟩ Hk
  by_cases hc : k0_cond2 (eW e) = 1#1
  · have hc' := (cond2_iff e h5 h60).1 hc
    simp only [dif_pos hc]
    iapply (wp_built (e := e) (O := O) (W := W) d i t emb tok tab h60 4 9 1 (by omega) (by omega)
      (off16_eq i t) rfl (by omega) (fun p h h' => (pos_mid (by omega) (by omega)).trans (by omega))) $$ [HB Hs8]
    · isplitr; · iexact Hmw
      isplitl [HB]; · iexact HB
      iexact Hs8
    iintro ⟨HB, Hs8⟩
    iapply (wp_built (e := e) (O := O) (W := W) d i t emb tok tab h60 4 (e + 4) (e - 4) (by omega) (by omega)
      ((off18_eq i t e h5 h60).trans (by rw [Nat.add_assoc])) (off17_eq e h5 h60) (by omega)
      (fun p h h' => (pos_mid (by omega) (by omega)).trans (by omega))) $$ [HB Hs9]
    · isplitr; · iexact Hmw
      isplitl [HB]; · iexact HB
      iexact Hs9
    iintro ⟨HB, Hs9⟩
    iapply Hk
    isplitl [HB]
    · iapply (Built.congr d i t emb tok tab h60 (fun p _ => middle_of_fours h5 p hc')) $$ HB
    isplitl [Hs8]; · iexact Hs8
    iexact Hs9
  · have hc' := mt (cond2_iff e h5 h60).2 hc
    simp only [dif_neg hc]
    iapply Hk
    isplitl [HB]
    · iapply (Built.congr d i t emb tok tab h60 (fun p _ => middle_of_tailed h5 p hc')) $$ HB
    isplitl [Hs8]; · iexact Hs8
    iexact Hs9

include h5 h60 in
/-- The rows the class owns, copied over. -/
theorem run4_spec (v7 : BitVec 32) (hw : k0_chk1 i t (eW e)) (v71 v88 c v89 : BitVec 32) :
    iprop(waits d i O ∗ Built d i t emb tok tab O W e h60 (fun p => p = 0) ∗ atSem d i cc0_scoped5 ∗ atSem d i cc0_scoped7
        ∗ atSem d i cc0_scoped8 ∗ atSem d i cc0_scoped9 ∗ atSem d i cc0_scoped10)
      ⊢ wp frame (wpE (defs₀ (F := F)) 𝒱₀ (tile d i) none) Set.univ (run4 (F := F) i t v7 (eW e) hw v71 v88 c v89)
          fun r => iprop(⌜r = ⟨k0_pay12 lanes, k0_pay13 lanes, k0_pay14 lanes, k0_pay15 lanes (eW e)⟩⌝
            ∗ Built d i t emb tok tab O W e h60 (own e) ∗ atSem d i cc0_scoped5 ∗ atSem d i cc0_scoped7
            ∗ atSem d i cc0_scoped8 ∗ atSem d i cc0_scoped9 ∗ atSem d i cc0_scoped10) := by
  unfold run4
  rw [k0_part4_eq_skeleton]; unfold k0_part4_skel
  simp only [Prog.lift, Prog.bind_op, Prog.bind_ret, Prog.pure_eq_ret]
  iintro ⟨#Hmw, HB, Hs5, Hs7, Hs8, Hs9, Hs10⟩
  rw [wp_bind]
  -- the eights
  iapply (wp_wand frame _ _ (Q := fun _ => iprop(Built d i t emb tok tab O W e h60 (eights ((e - 1) / 8)) ∗ atSem d i cc0_scoped5))) $$ [HB Hs5]
  · iapply (Scf.wp_for frame _ _ _ _ _ _ _ _
      (fun k _ => iprop(waits d i O ∗ Built d i t emb tok tab O W e h60 (eights k) ∗ atSem d i cc0_scoped5)) (fun k _ => ?step))
    case step =>
      have hk : k.val < (e - 1) / 8 := lt_of_lt_of_eq k.isLt (t2_trips e h5 h60)
      unfold k0_t2_body
      simp only [Prog.lift, Prog.bind_op, Prog.bind_ret, Prog.pure_eq_ret]
      iintro ⟨#Hmw, HB, Hs⟩
      iapply (wp_built (e := e) (O := O) (W := W) d i t emb tok tab h60 8 (9 + 8 * k.val) (1 + 8 * k.val) (by omega) (by omega)
        ((off11_eq i t e h5 h60 k).trans (by rw [Nat.add_assoc])) (off10_eq e h5 h60 k) (by omega)
        (fun p h h' => (pos_mid (by omega) (by omega)).trans (by omega))) $$ [HB Hs]
      · isplitr; · iexact Hmw
        isplitl [HB]; · iexact HB
        iexact Hs
      iintro ⟨HB, Hs⟩
      rw [wp_ret]; imodintro
      isplitr; · iexact Hmw
      isplitl [HB]
      · iapply (Built.congr d i t emb tok tab h60 (fun p _ => by unfold eights; omega)) $$ HB
      · iexact Hs
    · isplitl
      · isplitr; · iexact Hmw
        isplitl [HB]
        · iapply (Built.congr d i t emb tok tab h60 (fun p _ => by unfold eights; omega)) $$ HB
        · iexact Hs5
      · iintro %_ ⟨-, HB, Hs⟩
        isplitl [HB]
        · iapply (Entails.of_eq (congrArg (fun n => Built d i t emb tok tab O W e h60 (eights n)) (t2_trips e h5 h60))) $$ HB
        iexact Hs
  iintro %_ ⟨HB, Hs5⟩
  -- the loop over the rest: no trips
  rw [wp_bind]
  iapply (wp_wand frame _ _ (Q := fun _ => Built d i t emb tok tab O W e h60 (eights ((e - 1) / 8)))) $$ [HB]
  · iapply (Scf.wp_for frame _ _ _ _ _ _ _ _ (fun _ _ => Built d i t emb tok tab O W e h60 (eights ((e - 1) / 8)))
      (fun k _ => absurd (lt_of_lt_of_eq k.isLt (t3_trips e h5 h60)) (Nat.not_lt_zero _)))
    isplitl
    · iexact HB
    · iintro %_ HB
      iexact HB
  iintro %_ HB
  -- the last eight
  iapply (wp_eight (O := O) (W := W) d i t emb tok tab h5 h60 hw) $$ [HB Hs7]
  · isplitr; · iexact Hmw
    isplitl [HB]; · iexact HB
    iexact Hs7
  iintro ⟨HB, Hs7⟩
  -- the fours of a short text
  iapply (wp_fours (O := O) (W := W) d i t emb tok tab h5 h60 hw) $$ [HB Hs8 Hs9]
  · isplitr; · iexact Hmw
    isplitl [HB]; · iexact HB
    isplitl [Hs8]; · iexact Hs8
    iexact Hs9
  iintro ⟨HB, Hs8, Hs9⟩
  -- the end row
  iapply (wp_built (e := e) (O := O) (W := W) d i t emb tok tab h60 1 (16 + e) e (by omega) (by omega)
    ((off20_eq i t e h5 h60).trans (by rw [Nat.add_assoc])) (off19_eq e h5 h60) (by omega)
    (fun p h h' => by unfold pos; split_ifs <;> omega)) $$ [HB Hs10]
  · isplitr; · iexact Hmw
    isplitl [HB]; · iexact HB
    iexact Hs10
  iintro ⟨HB, Hs10⟩
  rw [wp_ret]; imodintro
  isplitr; · ipureintro; rfl
  isplitl [HB]
  · iapply (Built.congr d i t emb tok tab h60 (fun p _ => own_of_middle p)) $$ HB
  isplitl [Hs5]; · iexact Hs5
  isplitl [Hs7]; · iexact Hs7
  isplitl [Hs8]; · iexact Hs8
  isplitl [Hs9]; · iexact Hs9
  iexact Hs10

end

end Cert.Proof
-- ==== Proof.Row.lean ====
/-
  One class's token row: its five slabs gathered through the class's positions, converted, masked and stored, and then the
  whole of one trip of the class loop.
-/
module

public import proofs.«01_k».proof.Proof.Parts

@[expose] public section

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section
variable (d : Dev nD) (i : grid0.Coords) (t : Fin k0_t1_loop.trips) (tok : S1024x77.Idx → BitVec 32)

/-- The tile's token rows, and its output plane with the class's row written up to position `hi`. -/
def Tokens (hi : ℕ) : sProp (MM F) :=
  iprop(atK d i (rowsK tok (wid i)) ∗ ∃ g, ⌜TStage tok (wid i) t.val hi g⌝ ∗ atT d i g)

variable {e : ℕ} (h60 : e < 60) (hE : (eotAt tok (cls i t)).val = e)

/-- A slab's columns are in range. -/
theorem row_inb {o : ℕ} {rows cols : IVec S16 32} (h60 : e < 60) (ho : o + 16 ≤ 77) (hr : rows = broadcast S16 (BitVec.ofNat 32 t.val))
    (hc : ∀ k, cols k = slotW (IntOp.addi (lanes k) (BitVec.ofNat 32 o)) (BitVec.ofNat 32 e)) :
    ∀ a x, ((![rows, cols] : Fin 2 → IVec S16 32) a x).toNat < S32x77.size a :=
  slab_inb (t := trip t) ho h60 hr hc

include h60 hE in
/-- One slab of the row, from its gather to its store. -/
theorem wp_row (o : ℕ) {hi : ℕ} {α : Type} {Q : α → sProp (MM F)} {rows cols : IVec S16 32}
    {hidx : ∀ a x, ((![rows, cols] : Fin 2 → IVec S16 32) a x).toNat < S32x77.size a} {hl : scrK.view.Loads}
    {off : Fin 2 → ℕ} {inb : ∀ a, off a + S1x16.size a ≤ S32x77.size a} {pay : Vec F S16 .i32 → FVec F S16 .f32}
    {h₁ : scrT.view.LoadsAt (Rect.unit (s := S32x77) off S1x16.size inb).toLoadRect}
    {h₂ : (scrT.access (Rect.unit (s := S32x77) off S1x16.size inb)).Stores Finset.univ}
    {h₃ : (Finset.univ : Finset (Rect.unit (s := S32x77) off S1x16.size inb).shape.Idx) = Finset.univ
      ∨ ∀ a, (Rect.unit (s := S32x77) off S1x16.size inb).stride a = 1}
    {k : PUnit → Prog (TpuEff nD τ sig (Elt F) Λ₀ (tile d i).2) α}
    (hoi : o ≤ hi) (ho : o + 16 ≤ 77) (hr : rows = broadcast S16 (BitVec.ofNat 32 t.val))
    (hc : ∀ x, cols x = slotW (IntOp.addi (lanes x) (BitVec.ofNat 32 o)) (BitVec.ofNat 32 e))
    (hp : ∀ v x, pay v x = slotF (F := F) (slotC (IntOp.addi (lanes x) (BitVec.ofNat 32 o)) (BitVec.ofNat 32 e)) (v x))
    (hoff : off = ![t.val, o]) :
    Tokens d i t tok hi
      ⊢ iprop((Tokens d i t tok (o + 16) -∗ wp frame (wpE (defs₀ (F := F)) 𝒱₀ (tile d i) none) Set.univ (k ⟨⟩) Q)
          -∗ wp frame (wpE (defs₀ (F := F)) 𝒱₀ (tile d i) none) Set.univ
              (SparseCore.vectorLoadIdx scrK ![rows, cols] hidx hl >>= fun v =>
                .op (.load scrT (Rect.unit (s := S32x77) off S1x16.size inb).toLoadRect h₁) fun _ =>
                .op (.store scrT (Rect.unit (s := S32x77) off S1x16.size inb) (shapeCast S1x16 (pay v) shapeCasts_S16_S1x16)
                  Finset.univ h₂ h₃) k) Q) := by
  unfold Tokens
  have hE' : (eotAt tok (clsOf (wid i) (trip t))).val = e := by rw [← cls_eq]; exact hE
  iintro ⟨HK, %g, %hg, HT⟩ Hk
  iapply (wp_slab d i (rowsK tok (wid i)) g) $$ [HK HT]
  · isplitl [HK]; · iexact HK
    iexact HT
  iintro ⟨HK, HT⟩
  iapply Hk
  isplitl [HK]; · iexact HK
  iexists (scrT.view.writes (Elt F) g [⟨Rect.unit (s := S32x77) off S1x16.size inb,
    shapeCast S1x16 (pay (loadIdx (F := F) (e := .i32) (rowsK tok (wid i)) ![rows, cols] hidx)) shapeCasts_S16_S1x16⟩])
  isplitr
  · ipureintro
    refine TStage.store (t := trip t) hg hoi ho hoff inb (pay (loadIdx (F := F) (e := .i32) (rowsK tok (wid i)) ![rows, cols] hidx)) fun x => ?_
    rw [hp]
    exact slab_value (w := wid i) (t := trip t) ho h60 hr hc hE' hidx x
  · iexact HT

include h60 hE in
theorem run5_spec (a v69 : BitVec 32) (v107 : IVec S16 32) (v109 v111 v114 : IVec S16 1) (ha : a = BitVec.ofNat 32 t.val) (hv : v69 = eW e)
    (hs : (⟨v107, v109, v111, v114⟩ : Σ' (_ : IVec S16 32) (_ : IVec S16 1) (_ : IVec S16 1), IVec S16 1)
      = ⟨k0_pay12 lanes, k0_pay13 lanes, k0_pay14 lanes, k0_pay15 lanes (eW e)⟩) :
    Tokens d i t tok 0
      ⊢ wp frame (wpE (defs₀ (F := F)) 𝒱₀ (tile d i) none) Set.univ (run5 (F := F) i t a v69 v107 v109 v111 v114)
          fun r => iprop(⌜r = ⟨k0_pay23 lanes (eW e), k0_pay24 lanes (eW e), k0_pay25 lanes (eW e)⟩⌝ ∗ Tokens d i t tok 16) := by
  subst ha hv
  cases hs
  unfold run5
  rw [k0_part5_eq_skeleton]; unfold k0_part5_skel
  simp only [Prog.lift, Prog.bind_op, Prog.bind_ret, Prog.pure_eq_ret]
  rw [wp_assume_of _ _ _ _ (show k0_chk2 _ _ from row_inb (o := 0) t h60 (by omega) rfl (fun k => cols0 _ k))]
  iintro H
  iapply (wp_row d i t tok h60 hE 0 (by omega) (by omega) rfl (fun k => cols0 _ k) (fun v k => vals0 _ k v) (k0_off21_eq t)) $$ H
  iintro H
  rw [wp_ret]; imodintro
  isplitr; · ipureintro; rfl
  iexact H

include h60 hE in
theorem run6_spec (a v69 : BitVec 32) (v148 : IVec S16 1) (v156 : IVec S16 32) (v157 : IVec S16 1) (ha : a = BitVec.ofNat 32 t.val) (hv : v69 = eW e)
    (hs : (⟨v148, v156, v157⟩ : Σ' (_ : IVec S16 1) (_ : IVec S16 32), IVec S16 1)
      = ⟨k0_pay23 lanes (eW e), k0_pay24 lanes (eW e), k0_pay25 lanes (eW e)⟩) :
    Tokens d i t tok 16
      ⊢ wp frame (wpE (defs₀ (F := F)) 𝒱₀ (tile d i) none) Set.univ (run6 (F := F) i t a v69 v148 v156 v157)
          fun r => iprop(⌜r = ⟨k0_pay33 lanes, 0#32⟩⌝ ∗ Tokens d i t tok 48) := by
  subst ha hv
  cases hs
  unfold run6
  rw [k0_part6_eq_skeleton]; unfold k0_part6_skel
  simp only [Prog.lift, Prog.bind_op, Prog.bind_ret, Prog.pure_eq_ret]
  rw [wp_assume_of _ _ _ _ (show k0_chk3 _ _ from row_inb (o := 16) t h60 (by omega) rfl (fun k => cols16 _ k))]
  iintro H
  iapply (wp_row d i t tok h60 hE 16 (by omega) (by omega) rfl (fun k => cols16 _ k) (fun v k => vals16 _ k v) (k0_off22_eq t)) $$ H
  iintro H
  rw [wp_assume_of _ _ _ _ (show k0_chk4 _ _ from row_inb (o := 32) t h60 (by omega) rfl (fun k => cols32 _ k))]
  iapply (wp_row d i t tok h60 hE 32 (by omega) (by omega) rfl (fun k => cols32 _ k) (fun v k => vals32 _ k v) (k0_off23_eq t)) $$ H
  iintro H
  rw [wp_ret]; imodintro
  isplitr; · ipureintro; rfl
  iexact H

include h60 hE in
theorem run7_spec (a v69 : BitVec 32) (v197 : IVec S16 32) (c : BitVec 32) (ha : a = BitVec.ofNat 32 t.val) (hv : v69 = eW e)
    (hs : (⟨v197, c⟩ : Σ' (_ : IVec S16 32), BitVec 32) = ⟨k0_pay33 lanes, 0#32⟩) :
    Tokens d i t tok 48
      ⊢ wp frame (wpE (defs₀ (F := F)) 𝒱₀ (tile d i) none) Set.univ (run7 (F := F) i t a v69 v197 c)
          fun r => iprop(⌜r = ⟨k0_pay40 lanes, k0_pay41 lanes (eW e), k0_pay42 lanes (eW e), k0_pay43 lanes⟩⌝ ∗ Tokens d i t tok 64) := by
  subst ha hv
  cases hs
  unfold run7
  rw [k0_part7_eq_skeleton]; unfold k0_part7_skel
  simp only [Prog.lift, Prog.bind_op, Prog.bind_ret, Prog.pure_eq_ret]
  rw [wp_assume_of _ _ _ _ (show k0_chk5 _ _ from row_inb (o := 48) t h60 (by omega) rfl (fun k => cols48 _ k))]
  iintro H
  iapply (wp_row d i t tok h60 hE 48 (by omega) (by omega) rfl (fun k => cols48 _ k) (fun v k => vals48 _ k v) (k0_off24_eq t)) $$ H
  iintro H
  rw [wp_ret]; imodintro
  isplitr; · ipureintro; rfl
  iexact H
end

/-! ## One trip of the class loop -/

section
variable (d : Dev nD) (i : grid0.Coords) (q : PosShare TreeShare)
variable (emb : S78848x512.Idx → F .f32) (tok : S1024x77.Idx → BitVec 32) (tab : S77x512.Idx → F .f32)
variable (O : CellTallies nD τ sig (HIx 1)) (W : Waits sig (HIx 1))

/-- The transfers' semaphores the classes use, at zero. -/
def classSems : sProp (MM F) :=
  iprop(atSem d i cc0_scoped2 ∗ atSem d i cc0_scoped3 ∗ atSem d i cc0_scoped4 ∗ atSem d i cc0_scoped5 ∗ atSem d i cc0_scoped7
    ∗ atSem d i cc0_scoped8 ∗ atSem d i cc0_scoped9 ∗ atSem d i cc0_scoped10)

/-- What a tile holds with `t` of its classes built. -/
def Class (t : ℕ) : sProp (MM F) :=
  iprop(waits d i O ∗ atP d i tab ∗ atEmb d i q emb ∗ (∃ g, atE d i g) ∗ atK d i (rowsK tok (wid i))
    ∗ (∃ g, ⌜TStage tok (wid i) t 0 g⌝ ∗ atT d i g)
    ∗ (∃ f, ⌜Done emb tok tab (wid i).val (2464 * (wid i).val + 77 * t) f⌝ ∗ atOut d i f)
    ∗ classSems d i ∗ Owing (tile d i) O W)

/-- One class, from the ones before it. -/
theorem class_step (hr : InRange tok) (v1 : BitVec 32) (t : Fin k0_t1_loop.trips) (acc : Unit) :
    Class d i q emb tok tab O W t.val
      ⊢ wp frame (wpE (defs₀ (F := F)) 𝒱₀ (tile d i) none) Set.univ
          (k0_t1_body (F := F) i embA (Memref.isWhole_whole _) tokA (Memref.isWhole_whole _) tabA (Memref.isWhole_whole _) outE
            (Memref.isWhole_whole _) outT (Memref.isWhole_whole _) scrP (Memref.isWhole_whole _) scrE (Memref.isWhole_whole _) scrK
            (Memref.isWhole_whole _) scrT (Memref.isWhole_whole _) cc0_scoped0 cc0_scoped1 cc0_scoped2 cc0_scoped3 cc0_scoped4
            cc0_scoped5 cc0_scoped6 cc0_scoped7 cc0_scoped8 cc0_scoped9 cc0_scoped10 cc0_scoped11 v1 lanes t acc)
          fun _ => Class d i q emb tok tab O W (t.val + 1) := by
  obtain ⟨h5, h60⟩ := hr (cls i t)
  obtain ⟨e, hE⟩ : ∃ e, (eotAt tok (cls i t)).val = e := ⟨_, rfl⟩
  rw [hE] at h5 h60
  have hrow : 77 * (cls i t).val = 2464 * (wid i).val + 77 * t.val := by
    rw [cls_eq]; unfold clsOf trip; simp only; omega
  unfold Class classSems k0_t1_body
  iintro ⟨#Hmw, HP, Hemb, ⟨%g, HE⟩, HK, ⟨%gT, %hT, HT⟩, ⟨%f, %hf, Hout⟩, ⟨Hs2, Hs3, Hs4, Hs5, Hs7, Hs8, Hs9, Hs10⟩, How⟩
  rw [wp_bind]
  iapply (wp_wand frame _ _) $$ [HK]
  · iapply (run1_spec d i t tok v1) $$ HK
  iintro %r ⟨%hr1, HK⟩
  obtain ⟨a, v7, v15, v17, v27, v42, v44⟩ := r
  obtain ⟨ha, hv⟩ := hr1
  dsimp only at ha hv ⊢
  rw [hE] at hv
  rw [wp_bind]
  iapply (wp_wand frame _ _) $$ [HP Hout Hs2 How]
  · iapply (run2_spec (O := O) (W := W) d i t emb tok tab h5 h60 v7 v15 v17 v27 v42 v44 hv (hrow ▸ hf))
    isplitr; · iexact Hmw
    isplitl [HP]; · iexact HP
    isplitl [Hout]; · iexact Hout
    isplitl [Hs2]; · iexact Hs2
    iexact How
  iintro %r ⟨%hr2, HP, ⟨%f2, %hf2, Hout⟩, Hs2, How⟩
  obtain ⟨v69, hw⟩ := r
  dsimp only at hr2 ⊢
  subst hr2
  rw [wp_bind]
  iapply (wp_wand frame _ _) $$ [Hemb HE Hout Hs3 Hs4 How]
  · iapply (run3_spec (O := O) (W := W) d i t emb tok tab h60 (eW e) hf2)
    isplitr; · iexact Hmw
    isplitl [Hemb]; · iexact Hemb
    isplitl [HE]; · iexact HE
    isplitl [Hout]; · iexact Hout
    isplitl [Hs3]; · iexact Hs3
    isplitl [Hs4]; · iexact Hs4
    iexact How
  iintro %r ⟨Hemb, HE, ⟨%f3, %hf3, Hout⟩, Hs3, Hs4, How⟩
  obtain ⟨v71, v88, c, v89⟩ := r
  dsimp only
  rw [wp_bind]
  iapply (wp_wand frame _ _) $$ [HE Hout Hs5 Hs7 Hs8 Hs9 Hs10 How]
  · iapply (run4_spec (O := O) (W := W) d i t emb tok tab h5 h60 v7 hw v71 v88 c v89)
    isplitr; · iexact Hmw
    isplitl [HE Hout How]
    · unfold Built
      isplitl [HE]; · iexact HE
      isplitl [Hout]
      · iexists f3
        isplitr; · ipureintro; exact hf3
        iexact Hout
      iexact How
    isplitl [Hs5]; · iexact Hs5
    isplitl [Hs7]; · iexact Hs7
    isplitl [Hs8]; · iexact Hs8
    isplitl [Hs9]; · iexact Hs9
    iexact Hs10
  iintro %r ⟨%hr4, HB, Hs5, Hs7, Hs8, Hs9, Hs10⟩
  obtain ⟨v107, v109, v111, v114⟩ := r
  dsimp only
  unfold Built
  icases HB with ⟨HE, ⟨%f4, %hf4, Hout⟩, How⟩
  rw [wp_bind]
  iapply (wp_wand frame _ _) $$ [HK HT]
  · iapply (run5_spec d i t tok h60 hE a (eW e) v107 v109 v111 v114 ha rfl hr4)
    unfold Tokens
    isplitl [HK]; · iexact HK
    iexists gT
    isplitr; · ipureintro; exact hT
    iexact HT
  iintro %r ⟨%hr5, HR⟩
  obtain ⟨v148, v156, v157⟩ := r
  dsimp only
  rw [wp_bind]
  iapply (wp_wand frame _ _) $$ [HR]
  · iapply (run6_spec d i t tok h60 hE a (eW e) v148 v156 v157 ha rfl hr5) $$ HR
  iintro %r ⟨%hr6, HR⟩
  obtain ⟨v197, c0⟩ := r
  dsimp only
  rw [wp_bind]
  iapply (wp_wand frame _ _) $$ [HR]
  · iapply (run7_spec d i t tok h60 hE a (eW e) v197 c0 ha rfl hr6) $$ HR
  iintro %r ⟨%hr7, HR⟩
  obtain ⟨v229, v235, v238, v240⟩ := r
  cases hr7
  dsimp only
  subst ha
  simp only [Prog.lift, Prog.bind_op, Prog.bind_ret, Prog.pure_eq_ret]
  rw [wp_assume_of _ _ _ _ (show k0_chk6 _ _ from row_inb (o := 61) t h60 (by omega) rfl (fun k => cols61 _ k))]
  iapply (wp_row d i t tok h60 hE 61 (by omega) (by omega) rfl (fun k => cols61 _ k) (fun v k => vals61 _ k v) (k0_off25_eq t)) $$ HR
  unfold Tokens
  iintro ⟨HK, %g5, %hg5, HT⟩
  rw [wp_ret]; imodintro
  isplitr; · iexact Hmw
  isplitl [HP]; · iexact HP
  isplitl [Hemb]; · iexact Hemb
  isplitl [HE]
  · iexists (rowsE emb (cls i t))
    iexact HE
  isplitl [HK]; · iexact HK
  isplitl [HT]
  · iexists g5
    isplitr; · ipureintro; exact hg5.next
    iexact HT
  isplitl [Hout]
  · iexists f4
    isplitr
    · ipureintro
      have h := hf4.done hE
      rw [hrow] at h
      exact h
    iexact Hout
  isplitr [How]
  · isplitl [Hs2]; · iexact Hs2
    isplitl [Hs3]; · iexact Hs3
    isplitl [Hs4]; · iexact Hs4
    isplitl [Hs5]; · iexact Hs5
    isplitl [Hs7]; · iexact Hs7
    isplitl [Hs8]; · iexact Hs8
    isplitl [Hs9]; · iexact Hs9
    iexact Hs10
  iexact How
end

end Cert.Proof
-- ==== Proof.Tile.lean ====
/-
  One tile's whole task: the table and its token rows fetched, its 32 classes built one after another, its plane of the
  second output written out. At the end the tile's block of each output holds the result's values.
-/
module

public import proofs.«01_k».proof.Proof.Row

@[expose] public section

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section
variable (d : Dev nD) (i : grid0.Coords)

/-! ## The tile's plane of the second output -/

/-- The plane as the write-out's copy names it. -/
abbrev planeT : Memref sig .scVector .hbm S32x77 .f32 :=
  (outT.slice (Rect.unit (s := S32x32x77) (k0_off26 i) S1x32x77.size (k0_off26_inb i)) (fun _ => rfl)).squeeze S32x77
    squeezes_S1x32x77_S32x77

theorem plane_cast (a : Fin 32) (p : Fin 77) :
    Shape.reshapeEquiv (s := S1x32x77) (s' := S32x77) squeezes_S1x32x77_S32x77.numel_eq (ix2 a p) = ix3 (0 : Fin 1) a p := by
  apply Shape.reshapeEquiv_eq_of_rowMajor
  refine (Shape.rowMajor_val_three (d := ![1, 32, 77]) _).trans (Eq.trans ?_ (Shape.rowMajor_val_two (d := ![32, 77]) _).symm)
  change (0 * 32 + a.val) * 77 + p.val = a.val * 77 + p.val
  omega

theorem plane_emb (a : Fin 32) (p : Fin 77) :
    ((planeT i).view.emb (ix2 a p) : S32x32x77.Idx) = ix3 (wid i) a p := by
  change ((Rect.unit (s := S32x32x77) (k0_off26 i) S1x32x77.size (k0_off26_inb i)).emb
    (Shape.reshapeEquiv (s := S1x32x77) (s' := S32x77) squeezes_S1x32x77_S32x77.numel_eq (ix2 a p)) : S32x32x77.Idx) = _
  rw [plane_cast]
  funext z
  apply Fin.ext
  have h := k0_off26_eq i
  match z with
  | 0 =>
    change k0_off26 i 0 + 1 * 0 = 16 * (i 0).val + (i 1).val
    rw [h]; rfl
  | 1 =>
    change k0_off26 i 1 + 1 * a.val = a.val
    rw [h]; change 0 + 1 * a.val = a.val; omega
  | 2 =>
    change k0_off26 i 2 + 1 * p.val = p.val
    rw [h]; change 0 + 1 * p.val = p.val; omega

theorem plane_sub : ((planeT i).view.set : Finset S32x32x77.Idx) ⊆ slab (wid i).val := by
  intro y hy
  obtain ⟨x, -, rfl⟩ := Finset.mem_map.mp hy
  obtain ⟨a, p, rfl⟩ : ∃ (a : Fin 32) (p : Fin 77), x = ix2 a p := ⟨x 0, x 1, eq_ix2 x⟩
  rw [mem_slab]
  exact congrArg Fin.val (congrFun (plane_emb i a p) 0)

/-- The plane after the write-out. -/
theorem plane_write (tok : S1024x77.Idx → BitVec 32) (f : S32x32x77.Idx → F .f32) {g : S32x77.Idx → F .f32}
    (hg : ∀ a p, g (ix2 a p) = cellT tok (clsOf (wid i) a) p) (y : S32x32x77.Idx) (hy : y ∈ slab (wid i).val) :
    ((planeT i).view.write (Elt F) f g Finset.univ : S32x32x77.Idx → F .f32) y = expT tok y := by
  obtain ⟨b, a, p, rfl⟩ : ∃ (b : Fin 32) (a : Fin 32) (p : Fin 77), y = ix3 b a p := ⟨y 0, y 1, y 2, eq_ix3 y⟩
  obtain rfl : b = wid i := Fin.ext (mem_slab.1 hy)
  rw [← plane_emb i a p]
  have h := congrFun (View.read_write_univ (Val := Elt F) (v := (planeT i).view) f g) (ix2 a p)
  refine Eq.trans h ?_
  rw [hg, plane_emb]
  rfl

/-! ## The two fetches -/

theorem fetch_table (f tab : S77x512.Idx → F .f32) :
    (scrP.view.write (Elt F) f (tabA.view.read (Elt F) tab) Finset.univ : S77x512.Idx → F .f32) = tab := by
  rw [View.write_whole_univ]; rfl

theorem fetch_tokens {hs : ∀ x, (Rect.unit (s := S1024x77) (k0_off1 i) S32x77.size (k0_off1_inb i)).stride x = 1}
    (f : S32x77.Idx → BitVec 32) (tok : S1024x77.Idx → BitVec 32) :
    (scrK.view.write (Elt F) f ((tokA.slice (Rect.unit (s := S1024x77) (k0_off1 i) S32x77.size (k0_off1_inb i)) hs).view.read (Elt F) tok)
      Finset.univ : S32x77.Idx → BitVec 32) = rowsK tok (wid i) := by
  rw [View.write_whole_univ]
  funext y
  obtain ⟨a, p, rfl⟩ : ∃ (a : Fin 32) (p : Fin 77), y = ix2 a p := ⟨y 0, y 1, eq_ix2 y⟩
  have h0 : (i 0).val < 2 := (i 0).isLt
  have h1 : (i 1).val < 16 := (i 1).isLt
  refine (tokA_read (F := F) (k := 32) (b := 512 * (i 0).val + 32 * (i 1).val) (k0_off1_inb i) hs (k0_off1_eq i) tok a p (by omega)).trans ?_
  rw [rowsK_at]
  congr 2
  apply Fin.ext
  change 512 * (i 0).val + 32 * (i 1).val + a.val = 32 * (16 * (i 0).val + (i 1).val) + a.val
  omega

/-! ## The whole task -/

variable (qe qk qp : PosShare TreeShare)
variable (emb : S78848x512.Idx → F .f32) (tok : S1024x77.Idx → BitVec 32) (tab : S77x512.Idx → F .f32)
variable (O : CellTallies nD τ sig (HIx 1)) (W : Waits sig (HIx 1))

abbrev atTok : sProp (MM F) := tokA.view.loc (tile d i) ↦[Finset.univ]{qk} tok
abbrev atTab : sProp (MM F) := tabA.view.loc (tile d i) ↦[Finset.univ]{qp} tab
abbrev atPlane (f : S32x32x77.Idx → F .f32) : sProp (MM F) := outT.view.loc (tile d i) ↦[slab (wid i).val]{fullShare} f

/-- The tile's scratches, whatever they hold. -/
def scratches : sProp (MM F) :=
  iprop((∃ f, atP d i f) ∗ (∃ f, atE d i f) ∗ (∃ f, atK d i f) ∗ ∃ f, atT d i f)

/-- The tile's transfers' semaphores, at zero. -/
def tileSems : sProp (MM F) :=
  iprop(atSem d i cc0_scoped0 ∗ atSem d i cc0_scoped1 ∗ classSems d i ∗ atSem d i cc0_scoped11)

theorem block_done {w : ℕ} {f : S78848x512.Idx → F .f32} (h : Done emb tok tab w (2464 * w + 77 * 32) f) (y : S78848x512.Idx)
    (hy : y ∈ blk w) : f y = expE emb tok tab y := by
  obtain ⟨h0, h1⟩ := mem_blk.1 hy
  exact h y h0 (by omega)

/-- The tile's task, from any contents of its outputs. -/
theorem tile_run (hr : InRange tok) (fo : S78848x512.Idx → F .f32) (ft : S32x32x77.Idx → F .f32) :
    iprop(waits d i O ∗ (atEmb d i qe emb ∗ atTok d i qk tok ∗ atTab d i qp tab) ∗ (atOut d i fo ∗ atPlane d i ft)
        ∗ scratches d i ∗ tileSems d i ∗ Owing (tile d i) O W)
      ⊢ wp frame (wpE (defs₀ (F := F)) 𝒱₀ (tile d i) none) Set.univ
          (cc0__sc_build (F := F) i embA (Memref.isWhole_whole _) tokA (Memref.isWhole_whole _) tabA (Memref.isWhole_whole _) outE
            (Memref.isWhole_whole _) outT (Memref.isWhole_whole _) scrP (Memref.isWhole_whole _) scrE (Memref.isWhole_whole _) scrK
            (Memref.isWhole_whole _) scrT (Memref.isWhole_whole _) cc0_scoped0 cc0_scoped1 cc0_scoped2 cc0_scoped3 cc0_scoped4
            cc0_scoped5 cc0_scoped6 cc0_scoped7 cc0_scoped8 cc0_scoped9 cc0_scoped10 cc0_scoped11)
          fun _ => iprop((atEmb d i qe emb ∗ atTok d i qk tok ∗ atTab d i qp tab)
            ∗ (atOut d i (expE emb tok tab) ∗ atPlane d i (expT tok))
            ∗ scratches d i ∗ tileSems d i ∗ Owing (tile d i) O W) := by
  rw [cc0__sc_build_eq_skeleton]; unfold cc0__sc_build_skel scratches tileSems
  simp only [Prog.lift, Prog.bind_op, Prog.bind_ret, Prog.pure_eq_ret]
  iintro ⟨#Hmw, ⟨Hemb, Htok, Htab⟩, ⟨Hout, Hpl⟩, ⟨⟨%fP, HP⟩, ⟨%fE, HE⟩, ⟨%fK, HK⟩, ⟨%fT, HT⟩⟩, ⟨Hs0, Hs1, Hcs, Hs11⟩, How⟩
  -- the table
  iapply (wp_copy (thr := tile d i) (O := O) (W := W) .hbm (.core .vmem) S77x512 .f32 (src := tabA) (dst := scrP) (q := qp)
    (fs := tab) (fd := fP) (Ss := Finset.univ) (Sd := Finset.univ) (by decide) (Finset.subset_univ _) (Finset.subset_univ _)) $$ [Htab HP Hs0 How]
  · isplitr; · iexact Hmw
    isplitl [Htab]; · iexact Htab
    isplitl [HP]; · iexact HP
    isplitl [Hs0]; · iexact Hs0
    iexact How
  iintro ⟨Htab, HP, Hs0, How⟩
  rw [fetch_table]
  -- the token rows
  iapply (wp_copy (thr := tile d i) (O := O) (W := W) .hbm (.core .vmem) S32x77 .i32
    (src := tokA.slice (Rect.unit (s := S1024x77) (k0_off1 i) S32x77.size (k0_off1_inb i)) (fun _ => rfl)) (dst := scrK) (q := qk)
    (fs := tok) (fd := fK) (Ss := Finset.univ) (Sd := Finset.univ) (by decide) (Finset.subset_univ _) (Finset.subset_univ _)) $$ [Htok HK Hs1 How]
  · isplitr; · iexact Hmw
    isplitl [Htok]; · iexact Htok
    isplitl [HK]; · iexact HK
    isplitl [Hs1]; · iexact Hs1
    iexact How
  iintro ⟨Htok, HK, Hs1, How⟩
  rw [fetch_tokens]
  -- the classes
  rw [wp_bind]
  iapply (wp_wand frame _ _ (Q := fun _ => Class d i qe emb tok tab O W 32)) $$ [HP HE HK HT Hemb Hout Hcs How]
  · iapply (Scf.wp_for frame _ _ _ _ _ _ _ _ (fun n _ => Class d i qe emb tok tab O W n)
      (fun t acc => class_step d i qe emb tok tab O W hr _ t acc))
    isplitl
    · unfold Class
      isplitr; · iexact Hmw
      isplitl [HP]; · iexact HP
      isplitl [Hemb]; · iexact Hemb
      isplitl [HE]
      · iexists fE
        iexact HE
      isplitl [HK]; · iexact HK
      isplitl [HT]
      · iexists fT
        isplitr
        · ipureintro
          intro a p h
          exact absurd h (by omega)
        iexact HT
      isplitl [Hout]
      · iexists fo
        isplitr
        · ipureintro
          intro y h0 h1
          exact absurd h1 (by omega)
        iexact Hout
      isplitl [Hcs]; · iexact Hcs
      iexact How
    · iintro %_ H
      iexact H
  iintro %_ HC
  unfold Class
  icases HC with ⟨-, HP, Hemb, ⟨%gE, HE⟩, HK, ⟨%gT, %hT, HT⟩, ⟨%fo', %hfo, Hout⟩, Hcs, How⟩
  -- the plane
  iapply (wp_copy (thr := tile d i) (O := O) (W := W) (.core .vmem) .hbm S32x77 .f32 (src := scrT) (dst := planeT i) (q := fullShare)
    (fs := gT) (fd := ft) (Ss := Finset.univ) (Sd := slab (wid i).val) (by decide) (Finset.subset_univ _) (plane_sub i)) $$ [HT Hpl Hs11 How]
  · isplitr; · iexact Hmw
    isplitl [HT]; · iexact HT
    isplitl [Hpl]; · iexact Hpl
    isplitl [Hs11]; · iexact Hs11
    iexact How
  iintro ⟨HT, Hpl, Hs11, How⟩
  rw [wp_ret]; imodintro
  isplitl [Hemb Htok Htab]
  · isplitl [Hemb]; · iexact Hemb
    isplitl [Htok]; · iexact Htok
    iexact Htab
  isplitl [Hout Hpl]
  · isplitl [Hout]
    · iapply (Entails.of_eq (pointsTo_congr (ℓ := outE.view.loc (tile d i)) (I := blk (wid i).val) (f := fo') (g := expE emb tok tab)
        (fun y hy => block_done emb tok tab hfo y hy))) $$ Hout
    · iapply (Entails.of_eq (pointsTo_congr (fun y hy => plane_write i tok ft (g := scrT.view.read (Elt F) gT)
        (fun a p => hT a p (.inl a.isLt)) y hy))) $$ Hpl
  isplitl [HP HE HK HT]
  · isplitl [HP]
    · iexists tab
      iexact HP
    isplitl [HE]
    · iexists gE
      iexact HE
    isplitl [HK]
    · iexists (rowsK tok (wid i))
      iexact HK
    · iexists gT
      iexact HT
  isplitr [How]
  · isplitl [Hs0]; · iexact Hs0
    isplitl [Hs1]; · iexact Hs1
    isplitl [Hcs]; · iexact Hcs
    iexact Hs11
  iexact How

end

end Cert.Proof
-- ==== Proof.Task.lean ====
/-
The task each of the 32 subcores is handed, as the launch takes it. A task's hand: a thirty-second share of each of the three arrays
every subcore reads, and whole its own block of the two results; it comes back with the blocks written. A SparseCore's hand is its
sixteen subcores' hands side by side, so the split at the sequencer is the identity.
-/
module

public import proofs.«01_k».proof.Proof.Tile

@[expose] public section

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## A subcore's own semaphores and buffers -/

section Own
variable (d : Dev nD) (i : grid0.Coords)

/-- The semaphores a task uses. -/
def semSet : Finset (SemLoc sig) :=
  {.dma cc0_scoped0.sem, .dma cc0_scoped1.sem, .dma cc0_scoped2.sem, .dma cc0_scoped3.sem, .dma cc0_scoped4.sem, .dma cc0_scoped5.sem,
    .dma cc0_scoped7.sem, .dma cc0_scoped8.sem, .dma cc0_scoped9.sem, .dma cc0_scoped10.sem, .dma cc0_scoped11.sem}

/-- The buffers a task uses. -/
def bufSet : Finset (Ref sig .scVector) := {cc0_scratch0, cc0_scratch1, cc0_scratch2, cc0_scratch3}

def semCell : SemLoc sig ↪ GSem nD τ sig := ⟨fun s => (tile d i, s), fun _ _ h => (Prod.mk.inj h).2⟩

def bufRef : Ref sig .scVector ↪ DevRef τ sig := ⟨(tile d i).2.devRef, Proc.devRef_injective _⟩

theorem semSet_sub : semSet.map (semCell d i) ⊆ ownCells (tile d i) := by
  intro g hg
  obtain ⟨s, hs, rfl⟩ := Finset.mem_map.mp hg
  refine mem_ownCells.mpr ⟨rfl, ?_⟩
  change s.isScoped .scVector = true
  have key : ∀ s ∈ semSet, SemLoc.isScoped .scVector s = true := by decide
  exact key s hs

theorem bufSet_sub : bufSet.map (bufRef d i) ⊆ ownRefs (τ := τ) (sig := sig) (tile d i).2 := by
  intro g hg
  obtain ⟨s, hs, rfl⟩ := Finset.mem_map.mp hg
  refine SparseCore.Cfg.mem_ownRefs_of_owner ?_
  simp only [bufSet, Finset.mem_insert, Finset.mem_singleton] at hs
  rcases hs with rfl | rfl | rfl | rfl <;> rfl

def restSems : sProp (MM F) := bigSep (ownCells (tile d i) \ semSet.map (semCell d i)) fun g => semVal g 0
def restBufs : sProp (MM F) :=
  bigSep (ownRefs (τ := τ) (sig := sig) (tile d i).2 \ bufSet.map (bufRef d i)) fun b => iprop(∃ f, ((d, b) : Loc nD τ sig) ↦{fullShare} f)

theorem own_sems : (ownSems0 (tile d i) : sProp (MM F)) = iprop(tileSems d i ∗ restSems d i) := by
  unfold SparseCore.Cfg.ownSems0 restSems
  rw [bigSep_sdiff_split (semSet_sub d i), bigSep_map]
  congr 1
  unfold semSet tileSems classSems
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  have assoc : ∀ A B C : sProp (MM F), iprop((A ∗ B) ∗ C) = iprop(A ∗ B ∗ C) := fun A B C =>
    equiv_iff.mp ⟨Idealize.SL.BI.sep_assoc, Idealize.SL.BI.sep_assoc'⟩
  simp only [assoc]
  rfl

theorem own_bufs : (ownBufs (tile d i) : sProp (MM F)) = iprop(scratches d i ∗ restBufs d i) := by
  unfold SparseCore.Cfg.ownBufs restBufs
  rw [bigSep_sdiff_split (bufSet_sub d i), bigSep_map]
  congr 1
  unfold bufSet scratches
  rw [SparseCore.bigSep_insert' (by decide), SparseCore.bigSep_insert' (by decide), SparseCore.bigSep_insert' (by decide), bigSep_singleton]
  rfl

end Own

/-! ## The hands -/

abbrev eLoc (d : Dev nD) : Loc nD τ sig := (SparseCore.T d).loc main_v0
abbrev kLoc (d : Dev nD) : Loc nD τ sig := (SparseCore.T d).loc main_arg1
abbrev pLoc (d : Dev nD) : Loc nD τ sig := (SparseCore.T d).loc main_arg2
abbrev oLoc (d : Dev nD) : Loc nD τ sig := (SparseCore.T d).loc main_v1_0
abbrev sLoc (d : Dev nD) : Loc nD τ sig := (SparseCore.T d).loc main_v1_1

/-- The share subcore `w` of the 32 gets of an array all of them read. -/
def shareOf (w : Fin 32) : PosShare TreeShare := Transfers.dealOf fullShare Finset.univ w

variable (m : (ℓ : Loc nD τ sig) → Buf (Elt F) ℓ)

/-- The embeddings as the SparseCores read them: class after class, position after position. -/
def embOf (d : Dev nD) : S78848x512.Idx → F .f32 :=
  shapeCast S78848x512 (m ((SparseCore.T d).loc main_arg0) : S1024x77x512.Idx → F .f32) shapeCasts_S1024x77x512_S78848x512
def tokOf (d : Dev nD) : S1024x77.Idx → BitVec 32 := m (kLoc d)
def tabOf (d : Dev nD) : S77x512.Idx → F .f32 := m (pLoc d)

/-- Subcore `w`'s hand, its blocks of the results at `fo` and `ft`. -/
def hand (d : Dev nD) (fo : S78848x512.Idx → F .f32) (ft : S32x32x77.Idx → F .f32) (w : Fin 32) : sProp (MM F) :=
  iprop(((eLoc d ↦[Finset.univ]{shareOf w} embOf m d) ∗ (kLoc d ↦[Finset.univ]{shareOf w} tokOf m d)
      ∗ (pLoc d ↦[Finset.univ]{shareOf w} tabOf m d))
    ∗ (oLoc d ↦[blk w.val]{fullShare} fo) ∗ sLoc d ↦[slab w.val]{fullShare} ft)

def before (d : Dev nD) (w : Fin 32) : sProp (MM F) := hand m d (m (oLoc d)) (m (sLoc d)) w
def after (d : Dev nD) (w : Fin 32) : sProp (MM F) := hand m d (expE (embOf m d) (tokOf m d) (tabOf m d)) (expT (tokOf m d)) w

/-- The subcore at place `s` of SparseCore `c`, of the 32. -/
def place (c : Fin 2) (s : Fin 16) : Fin 32 := ⟨16 * c.val + s.val, by omega⟩

def P : (K (F := F)).Pay (nD := nD) (Val := Elt F) (Name := ℕ) (U := UU) where
  st := fun q d c => match q with | 0 => bigSep (Finset.univ : Finset (Fin 16)) fun s => before m d (place c s)
  dn := fun q d c => match q with | 0 => bigSep (Finset.univ : Finset (Fin 16)) fun s => after m d (place c s)
  go := fun q d c s => match q with | 0 => before m d (place c s)
  td := fun q d c s => match q with | 0 => after m d (place c s)
  x := fun _ _ => iprop(emp)

instance : (P m).IsStorable where
  st q d c := by match q with | 0 => unfold P before hand; infer_instance
  dn q d c := by match q with | 0 => unfold P after hand; infer_instance
  go q d c s := by match q with | 0 => unfold P before hand; infer_instance
  td q d c s := by match q with | 0 => unfold P after hand; infer_instance

/-! ## The task -/

def coordsV (c : Fin (grid0.bound 0)) (s : Fin (grid0.bound 1)) : grid0.Coords :=
  fun | 0 => c | 1 => s | ⟨_ + 2, h⟩ => absurd h (Nat.not_lt.2 (Nat.le_add_left _ _))

theorem task_body (d : Dev nD) (hr : InRange (tokOf m d)) (i : grid0.Coords) (O : CellTallies nD τ sig (HIx 1)) (W : Waits sig (HIx 1))
    (hO : ∀ g, O g none = 0) :
    iprop(levAts (K (F := F)).L (K (F := F)).lev ∗ emp ∗ before m d (wid i) ∗ scopedBufs (tile d i) ∗ scopedSems0 (tile d i)
        ∗ owes (tile d i) O W)
      ⊢ wp frame (wpE (defs₀ (F := F)) 𝒱₀ (tile d i) none) Set.univ
          (cc0__sc_build (F := F) i embA (Memref.isWhole_whole _) tokA (Memref.isWhole_whole _) tabA (Memref.isWhole_whole _) outE
            (Memref.isWhole_whole _) outT (Memref.isWhole_whole _) scrP (Memref.isWhole_whole _) scrE (Memref.isWhole_whole _) scrK
            (Memref.isWhole_whole _) scrT (Memref.isWhole_whole _) cc0_scoped0 cc0_scoped1 cc0_scoped2 cc0_scoped3 cc0_scoped4
            cc0_scoped5 cc0_scoped6 cc0_scoped7 cc0_scoped8 cc0_scoped9 cc0_scoped10 cc0_scoped11)
          fun _ => iprop(after m d (wid i) ∗ scopedBufs (tile d i) ∗ scopedSems0 (tile d i)
            ∗ ∃ W', ⌜∀ p ∈ W', p ∈ W ∨ p.2 = none ∨ p.2 = some (0 : Fin 1)⌝ ∗ owes (tile d i) O W') := by
  rw [(K (F := F)).scopedBufs_V facts d _ _, SparseCore.Cfg.scopedSems0_V (Val := Elt F) d _ _, own_sems, own_bufs]
  unfold before after hand
  iintro ⟨#Hlv, -, ⟨⟨He, Hk, Hp⟩, Ho, Hs⟩, ⟨Hscr, Hrb⟩, ⟨Hsem, Hrs⟩, HO⟩
  ihave Hmw := ((K (F := F)).mayWaits_none (thr := tile d i) hO) $$ Hlv
  iapply (wp_wand frame _ _ (Q := fun _ => iprop((atEmb d i (shareOf (wid i)) (embOf m d) ∗ atTok d i (shareOf (wid i)) (tokOf m d)
      ∗ atTab d i (shareOf (wid i)) (tabOf m d))
    ∗ (atOut d i (expE (embOf m d) (tokOf m d) (tabOf m d)) ∗ atPlane d i (expT (tokOf m d)))
    ∗ scratches d i ∗ tileSems d i ∗ Owing (tile d i) O W))) $$ [Hmw He Hk Hp Ho Hs Hscr Hsem HO] [Hrb Hrs]
  · iapply (tile_run d i (shareOf (wid i)) (shareOf (wid i)) (shareOf (wid i)) (embOf m d) (tokOf m d) (tabOf m d) O W hr
      (m (oLoc d)) (m (sLoc d)))
    isplitl [Hmw]; · iexact Hmw
    isplitl [He Hk Hp]
    · isplitl [He]; · iexact He
      isplitl [Hk]; · iexact Hk
      iexact Hp
    isplitl [Ho Hs]
    · isplitl [Ho]; · iexact Ho
      iexact Hs
    isplitl [Hscr]; · iexact Hscr
    isplitl [Hsem]; · iexact Hsem
    iapply Owing_intro
    iexact HO
  unfold Owing
  iintro %_ ⟨⟨He, Hk, Hp⟩, ⟨Ho, Hs⟩, Hscr, Hsem, %W', %hW', HO⟩
  isplitl [He Hk Hp Ho Hs]
  · isplitl [He Hk Hp]
    · isplitl [He]; · iexact He
      isplitl [Hk]; · iexact Hk
      iexact Hp
    isplitl [Ho]; · iexact Ho
    iexact Hs
  isplitl [Hscr Hrb]
  · isplitl [Hscr]; · iexact Hscr
    iexact Hrb
  isplitl [Hsem Hrs]
  · isplitl [Hsem]; · iexact Hsem
    iexact Hrs
  iexists W'
  isplitr
  · ipureintro; exact fun p hp => (hW' p hp).imp_right Or.inl
  · iexact HO

theorem defs₀_vector (c : Fin τ.nSC) (s : Fin τ.nSub) :
    defs₀ (F := F) (.scVector c s) 0 ()
      = SparseCore.onTile hcore0 hsub0 (fun c s => cc0__sc_build (F := F) (coordsV c s) embA (Memref.isWhole_whole _) tokA
          (Memref.isWhole_whole _) tabA (Memref.isWhole_whole _) outE (Memref.isWhole_whole _) outT (Memref.isWhole_whole _) scrP
          (Memref.isWhole_whole _) scrE (Memref.isWhole_whole _) scrK (Memref.isWhole_whole _) scrT (Memref.isWhole_whole _)
          cc0_scoped0 cc0_scoped1 cc0_scoped2 cc0_scoped3 cc0_scoped4 cc0_scoped5 cc0_scoped6 cc0_scoped7 cc0_scoped8 cc0_scoped9
          cc0_scoped10 cc0_scoped11) ⟨⟩ c s := rfl

theorem task (hr : ∀ d, InRange (tokOf m d)) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]
  simp only [SparseCore.onTile, hc, and_self, ↓reduceDIte]
  exact task_body m d (hr d) (coordsV ⟨_, hc.1⟩ ⟨_, hc.2⟩) O W hO

/-- The sequencer passes its sixteen hands on, and collects them. -/
theorem split : (K (F := F)).VecSplit' (P m) 0 := by
  intro d c
  change (bigSep (Finset.univ : Finset (Fin 16)) fun s => before m d (place c s))
    ⊢ |={Set.univ}=> iprop((bigSep (Finset.univ : Finset (Fin 16)) fun s => before m d (place c s))
      ∗ ((bigSep (Finset.univ : Finset (Fin 16)) fun s => after m d (place c s))
        -∗ bigSep (Finset.univ : Finset (Fin 16)) fun s => after m d (place c s)))
  iintro H
  imodintro
  isplitl [H]; · iexact H
  iintro H
  iexact H

end Cert.Proof

end
-- ==== Proof.Launch.lean ====
/-
The whole program's run: @main lays the embeddings out flat, deals the five arrays among the 32 subcores, collects them with the two
results written, and reshapes the results. From it: every run ends, quiescent, arguments as they were, results at the stated values.
-/
module

public import proofs.«01_k».proof.Proof.Task

@[expose] public section

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.StableHlo (held wp_hlo_within)
open Idealize.ShloMosaic.Rounds (initOf)

variable {F : FTy → Type} [FloatOps F]

variable (m : (ℓ : Loc nD τ sig) → Buf (Elt F) ℓ) (ρ : Dev nD → PrngReg)

/-! ## The arrays dealt to the subcores -/

def placeEquiv : Fin 2 × Fin 16 ≃ Fin 32 where
  toFun x := place x.1 x.2
  invFun w := (⟨w.val / 16, by omega⟩, ⟨w.val % 16, by omega⟩)
  left_inv x := by
    refine Prod.ext (Fin.ext ?_) (Fin.ext ?_)
    · change (16 * x.1.val + x.2.val) / 16 = x.1.val; omega
    · change (16 * x.1.val + x.2.val) % 16 = x.2.val; omega
  right_inv w := Fin.ext (by change 16 * (w.val / 16) + w.val % 16 = w.val; omega)

theorem blk_disjoint (w w' : Fin 32) (h : w ≠ w') : Disjoint (blk w.val) (blk w'.val) := by
  rw [Finset.disjoint_left]
  intro y hy hy'
  have := mem_blk.1 hy
  have := mem_blk.1 hy'
  exact h (Fin.ext (by omega))

theorem slab_disjoint (w w' : Fin 32) (h : w ≠ w') : Disjoint (slab w.val) (slab w'.val) := by
  rw [Finset.disjoint_left]
  intro y hy hy'
  exact h (Fin.ext ((mem_slab.1 hy).symm.trans (mem_slab.1 hy')))

theorem blk_cover : (Finset.univ : Finset (Fin 32)).biUnion (fun w => blk w.val) = Finset.univ := by
  refine Finset.eq_univ_iff_forall.mpr fun y => Finset.mem_biUnion.mpr ?_
  have h : (y 0).val < 78848 := (y 0).isLt
  exact ⟨⟨(y 0).val / 2464, by omega⟩, Finset.mem_univ _, mem_blk.2 (by dsimp only; omega)⟩

theorem slab_cover : (Finset.univ : Finset (Fin 32)).biUnion (fun w => slab w.val) = Finset.univ :=
  Finset.eq_univ_iff_forall.mpr fun y => Finset.mem_biUnion.mpr ⟨y 0, Finset.mem_univ _, mem_slab.2 rfl⟩

/-- The five arrays whole are the 32 hands. -/
theorem deal (d : Dev nD) (fo : S78848x512.Idx → F .f32) (ft : S32x32x77.Idx → F .f32) :
    (bigSep (Finset.univ : Finset (Fin 2)) fun c => bigSep (Finset.univ : Finset (Fin 16)) fun s => hand m d fo ft (place c s))
      = iprop(((eLoc d ↦{fullShare} embOf m d) ∗ (kLoc d ↦{fullShare} tokOf m d) ∗ (pLoc d ↦{fullShare} tabOf m d))
          ∗ (oLoc d ↦{fullShare} fo) ∗ sLoc d ↦{fullShare} ft) := by
  rw [← bigSep_univ_prod fun x : Fin 2 × Fin 16 => hand m d fo ft (place x.1 x.2)]
  refine (bigSep_univ_equiv placeEquiv (hand m d fo ft)).symm.trans ?_
  unfold hand shareOf
  simp only [bigSep_sep']
  rw [← Transfers.pointsTo_deal _ Finset.univ_nonempty, ← Transfers.pointsTo_deal _ Finset.univ_nonempty,
    ← Transfers.pointsTo_deal _ Finset.univ_nonempty]
  have ho := pointsTo_biUnion (Ix := HIx 1) (Lvl := ℕ) (Val := Elt F) (Name := ℕ) (U := UU) (ℓ := oLoc d) (q := fullShare) (f := fo) (Finset.univ : Finset (Fin 32))
    (fun w => blk w.val) (fun w _ w' _ h => blk_disjoint w w' h)
  have hs := pointsTo_biUnion (Ix := HIx 1) (Lvl := ℕ) (Val := Elt F) (Name := ℕ) (U := UU) (ℓ := sLoc d) (q := fullShare) (f := ft) (Finset.univ : Finset (Fin 32))
    (fun w => slab w.val) (fun w _ w' _ h => slab_disjoint w w' h)
  rw [blk_cover] at ho
  rw [slab_cover] at hs
  rw [ho, hs]

/-! ## @main -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev e' : DevRef τ sig := Proc.devRef .tc (main_v0 : Ref sig .tc)
abbrev o' : DevRef τ sig := Proc.devRef .tc (main_v1_0 : Ref sig .tc)
abbrev s' : DevRef τ sig := Proc.devRef .tc (main_v1_1 : Ref sig .tc)
abbrev r' : DevRef τ sig := Proc.devRef .tc (main_v2 : Ref sig .tc)
abbrev t' : DevRef τ sig := Proc.devRef .tc (main_v3 : Ref sig .tc)

abbrev rLoc (d : Dev nD) : Loc nD τ sig := (SparseCore.T d).loc main_v2
abbrev tLoc (d : Dev nD) : Loc nD τ sig := (SparseCore.T d).loc main_v3
abbrev aLoc (d : Dev nD) : Loc nD τ sig := (SparseCore.T d).loc main_arg0

abbrev opFlat : HloOp τ sig (Elt F) :=
  StableHlo.reshape main_arg0 main_v0 (rfl : (.f32 : EltTy) = .f32) shapeCasts_S1024x77x512_S78848x512
abbrev opOut : HloOp τ sig (Elt F) :=
  StableHlo.reshape main_v1_0 main_v2 (rfl : (.f32 : EltTy) = .f32) shapeCasts_S78848x512_S1024x77x512
abbrev opTok : HloOp τ sig (Elt F) :=
  StableHlo.reshape main_v1_1 main_v3 (rfl : (.f32 : EltTy) = .f32) shapeCasts_S32x32x77_S1024x77

/-- @main's arrays. -/
abbrev arrays : Finset (DevRef τ sig) := {a0', a1', a2', e', o', s', r', t'}

theorem held_arrays (d : Dev nD) (W : Valuation τ sig (Elt F)) :
    (held (T d) arrays W : sProp (MM F))
      = iprop((aLoc d ↦{fullShare} W a0') ∗ (kLoc d ↦{fullShare} W a1') ∗ (pLoc d ↦{fullShare} W a2') ∗ (eLoc d ↦{fullShare} W e')
          ∗ (oLoc d ↦{fullShare} W o') ∗ (sLoc d ↦{fullShare} W s') ∗ (rLoc d ↦{fullShare} W r') ∗ tLoc d ↦{fullShare} W t') := by
  unfold held arrays
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem unscoped_arrays (d : Dev nD) (W : (b : Ref sig .tc) → Buf (Elt F) ((d.tc : Thread nD τ).loc b)) :
    (unscopedBufs d W : sProp (MM F))
      = iprop((aLoc d ↦{fullShare} W main_arg0) ∗ (kLoc d ↦{fullShare} W main_arg1) ∗ (pLoc d ↦{fullShare} W main_arg2)
          ∗ (eLoc d ↦{fullShare} W main_v0) ∗ (oLoc d ↦{fullShare} W main_v1_0) ∗ (sLoc d ↦{fullShare} W main_v1_1)
          ∗ (rLoc d ↦{fullShare} W main_v2) ∗ tLoc d ↦{fullShare} W main_v3) := by
  unfold unscopedBufs
  rw [show (Finset.univ.filter fun b : Ref sig .tc => ¬ b.isScoped)
      = {main_arg0, main_arg1, main_arg2, main_v0, main_v1_0, main_v1_1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

def V0 (d : Dev nD) : Valuation τ sig (Elt F) := fun b => m (d, b)
def V1 (d : Dev nD) : Valuation τ sig (Elt F) := (opFlat (F := F)).result (V0 m d)
def V2 (d : Dev nD) : Valuation τ sig (Elt F) :=
  Function.update (Function.update (V1 m d) o' (expE (embOf m d) (tokOf m d) (tabOf m d))) s' (expT (tokOf m d))
def V3 (d : Dev nD) : Valuation τ sig (Elt F) := (opOut (F := F)).result (V2 m d)
def V4 (d : Dev nD) : Valuation τ sig (Elt F) := (opTok (F := F)).result (V3 m d)

theorem unscoped_held (d : Dev nD) :
    (unscopedBufs d (fun b => m ((SparseCore.T d).loc b)) : sProp (MM F)) = held (T d) arrays (V0 m d) := by
  rw [unscoped_arrays, held_arrays]; rfl

/-- The two results. -/
def outOf (d : Dev nD) : S1024x77x512.Idx → F .f32 :=
  shapeCast S1024x77x512 (expE (embOf m d) (tokOf m d) (tabOf m d)) shapeCasts_S78848x512_S1024x77x512
def outTokOf (d : Dev nD) : S1024x77.Idx → F .f32 := shapeCast S1024x77 (expT (F := F) (tokOf m d)) shapeCasts_S32x32x77_S1024x77

theorem V1_flat (d : Dev nD) : V1 m d e' = embOf m d := StableHlo.reshape_result _ _ _ _ _ _ _
theorem V1_keep (d : Dev nD) {b : DevRef τ sig} (h : b ∉ ({e'} : Finset (DevRef τ sig))) : V1 m d b = V0 m d b :=
  (opFlat (F := F)).result_of_not_mem _ h
theorem V2_o (d : Dev nD) : V2 m d o' = expE (embOf m d) (tokOf m d) (tabOf m d) :=
  (Function.update_of_ne (show o' ≠ s' by decide) _ _).trans (Function.update_self _ _ _)
theorem V2_s (d : Dev nD) : V2 m d s' = expT (tokOf m d) := Function.update_self _ _ _
theorem V2_keep (d : Dev nD) {b : DevRef τ sig} (h : b ≠ o') (h' : b ≠ s') : V2 m d b = V1 m d b :=
  (Function.update_of_ne h' _ _).trans (Function.update_of_ne h _ _)
theorem V3_keep (d : Dev nD) {b : DevRef τ sig} (h : b ∉ ({r'} : Finset (DevRef τ sig))) : V3 m d b = V2 m d b :=
  (opOut (F := F)).result_of_not_mem _ h
theorem V4_keep (d : Dev nD) {b : DevRef τ sig} (h : b ∉ ({t'} : Finset (DevRef τ sig))) : V4 m d b = V3 m d b :=
  (opTok (F := F)).result_of_not_mem _ h
theorem V3_r (d : Dev nD) : V3 m d r' = outOf m d := by
  refine (StableHlo.reshape_result _ _ _ _ _ _ _).trans ?_
  rw [V2_o]; rfl
theorem V4_t (d : Dev nD) : V4 m d t' = outTokOf m d := by
  refine (StableHlo.reshape_result _ _ _ _ _ _ _).trans ?_
  rw [V3_keep m d (b := s') (by decide), V2_s]; rfl
theorem V4_r (d : Dev nD) : V4 m d r' = outOf m d := (V4_keep m d (by decide)).trans (V3_r m d)
theorem V4_arg (d : Dev nD) {b : DevRef τ sig} (h : b ∈ ({a0', a1', a2'} : Finset (DevRef τ sig))) : V4 m d b = m (d, b) := by
  have key : ∀ b ∈ ({a0', a1', a2'} : Finset (DevRef τ sig)), b ∉ ({t'} : Finset (DevRef τ sig)) ∧ b ∉ ({r'} : Finset (DevRef τ sig))
      ∧ b ≠ o' ∧ b ≠ s' ∧ b ∉ ({e'} : Finset (DevRef τ sig)) := by decide
  obtain ⟨h1, h2, h3, h4, h5⟩ := key b h
  exact (V4_keep m d h1).trans ((V3_keep m d h2).trans ((V2_keep m d h3 h4).trans (V1_keep m d h5)))

theorem flat_sub : (opFlat (F := F)).bufs ⊆ arrays := show ({a0', e'} : Finset (DevRef τ sig)) ⊆ arrays by decide
theorem out_sub : (opOut (F := F)).bufs ⊆ arrays := show ({o', r'} : Finset (DevRef τ sig)) ⊆ arrays by decide
theorem tok_sub : (opTok (F := F)).bufs ⊆ arrays := show ({s', t'} : Finset (DevRef τ sig)) ⊆ arrays by decide

theorem st_eq (d : Dev nD) : (bigSep Finset.univ fun c : Fin ((K (F := F)).nCore 0) => (P m).st 0 d c)
    = iprop(((eLoc d ↦{fullShare} embOf m d) ∗ (kLoc d ↦{fullShare} tokOf m d) ∗ (pLoc d ↦{fullShare} tabOf m d))
        ∗ (oLoc d ↦{fullShare} m (oLoc d)) ∗ sLoc d ↦{fullShare} m (sLoc d)) := deal m d _ _
theorem dn_eq (d : Dev nD) : (bigSep Finset.univ fun c : Fin ((K (F := F)).nCore 0) => (P m).dn 0 d c)
    = iprop(((eLoc d ↦{fullShare} embOf m d) ∗ (kLoc d ↦{fullShare} tokOf m d) ∗ (pLoc d ↦{fullShare} tabOf m d))
        ∗ (oLoc d ↦{fullShare} expE (embOf m d) (tokOf m d) (tabOf m d)) ∗ sLoc d ↦{fullShare} expT (tokOf m d)) := deal m d _ _

/-- What @main ends with: its arguments as they were, its results. -/
def FIN (d : Dev nD) : sProp (MM F) :=
  iprop((aLoc d ↦{fullShare} m (aLoc d)) ∗ (kLoc d ↦{fullShare} m (kLoc d)) ∗ (pLoc d ↦{fullShare} m (pLoc d))
    ∗ (rLoc d ↦{fullShare} outOf m d) ∗ tLoc d ↦{fullShare} outTokOf m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opFlat) (S := arrays) flat_sub (V := V0 m d)) $$ [Hb Hheld]
  · isplitl [Hb] <;> iassumption
  iintro ⟨Hb, Hheld⟩
  ihave Hh := (Entails.of_eq (show held (SparseCore.T d) arrays ((opFlat (F := F)).result (V0 m d)) = _
    from held_arrays (F := F) d (V1 m d))) $$ Hheld
  icases Hh with ⟨Ha, Hk, Hp, He, Ho, Hs, Hr, Ht⟩
  rw [wp_ret]; imodintro
  iapply ((K (F := F)).wp_run (D (F := F)) 𝒱 (EH := EH) (P := P m) κ d 0) $$ [Hst Ha Hk Hp He Ho Hs Hr Ht Hb Hts]
  isplitr; · iexact Hctx
  isplitl [Hst]; · iexact Hst
  isplitl [Hk Hp He Ho Hs]
  · rw [st_eq, V1_flat, V1_keep m d (b := a1') (by decide), V1_keep m d (b := a2') (by decide), V1_keep m d (b := o') (by decide),
      V1_keep m d (b := s') (by decide)]
    isplitl [Hk Hp He]
    · isplitl [He]; · iexact He
      isplitl [Hk]; · iexact Hk
      iexact Hp
    isplitl [Ho]; · iexact Ho
    iexact Hs
  iintro ⟨Hst, Hdn⟩
  ihave Hdn' := (Entails.of_eq (dn_eq m d)) $$ Hdn
  icases Hdn' with ⟨⟨He, Hk, Hp⟩, Ho, Hs⟩
  iapply (wp_hlo_within 𝒱 (SparseCore.T d) none Set.univ (op := opOut) (S := arrays) out_sub (V := V2 m d)) $$ [Hb Ha Hk Hp He Ho Hs Hr Ht]
  · isplitl [Hb]; · iexact Hb
    rw [held_arrays, V2_o, V2_s, V2_keep m d (b := a0') (by decide) (by decide), V2_keep m d (b := a1') (by decide) (by decide),
      V2_keep m d (b := a2') (by decide) (by decide), V2_keep m d (b := e') (by decide) (by decide),
      V2_keep m d (b := r') (by decide) (by decide), V2_keep m d (b := t') (by decide) (by decide), V1_flat,
      V1_keep m d (b := a1') (by decide), V1_keep m d (b := a2') (by decide)]
    isplitl [Ha]; · iexact Ha
    isplitl [Hk]; · iexact Hk
    isplitl [Hp]; · iexact Hp
    isplitl [He]; · iexact He
    isplitl [Ho]; · iexact Ho
    isplitl [Hs]; · iexact Hs
    isplitl [Hr] <;> iassumption
  iintro ⟨Hb, Hheld⟩
  rw [wp_ret]; imodintro
  iapply (wp_hlo_within 𝒱 (SparseCore.T d) none Set.univ (op := opTok) (S := arrays) tok_sub (V := V3 m d)) $$ [Hb Hheld]
  · isplitl [Hb]; · iexact Hb
    iexact Hheld
  iintro ⟨Hb, Hheld⟩
  ihave Hh := (Entails.of_eq (show held (SparseCore.T d) arrays ((opTok (F := F)).result (V3 m d)) = _
    from held_arrays (F := F) d (V4 m d))) $$ Hheld
  rw [V4_r, V4_t, V4_arg m d (b := a0') (by decide), V4_arg m d (b := a1') (by decide), V4_arg m d (b := a2') (by decide)]
  icases Hh with ⟨Ha, Hk, Hp, -, -, -, Hr, Ht⟩
  rw [wp_ret]; imodintro; imodintro
  isplitl [Hst]; · iexact Hst
  isplitr [Hb Hts]
  · unfold FIN
    isplitl [Ha]; · iexact Ha
    isplitl [Hk]; · iexact Hk
    isplitl [Hp]; · iexact Hp
    isplitl [Hr]; · iexact Hr
    iexact Ht
  isplitl [Hb] <;> iassumption

/-! ## The launch and the end -/

def u₀ : UU := (initOf (K (F := F)).hsCells (K (F := F)).hsToks, 1)

theorem bigSep_none {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_none]; iempintro
  unfold P; dsimp only
  rw [show (bigSep Finset.univ fun _ : Thread nD τ => bigSep Finset.univ fun _ : Fin 1 => (iprop(emp) : sProp (MM F))) = iprop(emp) from by
    rw [bigSep_congr fun _ _ => bigSep_none _, bigSep_none]]
  iempintro

/-- What a device's memory holds at the end. -/
def Ends (mem : (ℓ : Loc nD τ sig) → Buf (Elt F) ℓ) (d : Dev nD) : Prop :=
  mem (aLoc d) = m (aLoc d) ∧ mem (kLoc d) = m (kLoc d) ∧ mem (pLoc d) = m (pLoc d) ∧ mem (rLoc d) = outOf m d ∧ mem (tLoc d) = outTokOf m d

theorem agree (st : Phys nD τ sig (Elt F)) (ℓ : Loc nD τ sig) (f : Buf (Elt F) ℓ) :
    iprop(SI st ∗ ℓ ↦{fullShare} f) ⊢ (⌜st.mem.mem ℓ = f⌝ : sProp (MM F)) := by
  iintro H
  ihave H := (SI_pointsTo_agree (st := st) (ℓ := ℓ) (I := Finset.univ) (q := fullShare) (f := f)) $$ H
  icases H with %h
  ipureintro
  exact funext fun y => h y (Finset.mem_univ y)

theorem hfin (d : Dev nD) (st : Phys nD τ sig (Elt F)) : iprop(FIN m d ∗ SI st) ⊢ (⌜Ends m st.mem.mem d⌝ : sProp (MM F)) := by
  unfold FIN
  iintro ⟨⟨Ha, Hk, Hp, Hr, Ht⟩, HSI⟩
  ihave H := (persistent_entails_right (agree st _ _)) $$ [HSI Ha]
  · isplitl [HSI] <;> iassumption
  icases H with ⟨%ha, HSI, -⟩
  ihave H := (persistent_entails_right (agree st _ _)) $$ [HSI Hk]
  · isplitl [HSI] <;> iassumption
  icases H with ⟨%hk, HSI, -⟩
  ihave H := (persistent_entails_right (agree st _ _)) $$ [HSI Hp]
  · isplitl [HSI] <;> iassumption
  icases H with ⟨%hp, HSI, -⟩
  ihave H := (persistent_entails_right (agree st _ _)) $$ [HSI Hr]
  · isplitl [HSI] <;> iassumption
  icases H with ⟨%hr, HSI, -⟩
  ihave H := (agree st _ _) $$ [HSI Ht]
  · isplitl [HSI] <;> iassumption
  icases H with %ht
  ipureintro
  exact ⟨ha, hk, hp, hr, ht⟩

theorem run_main [∀ e, Nonempty (Elt F e)] (hr : ∀ d, InRange (tokOf m d)) :
    θ_run (Cert.KernelIdeal.defs (F := F)) (Cert.KernelIdeal.threads (F := F)) ⟨m, fun _ => 0, ρ⟩
      fun r => (∀ d, Ends m r.2.mem d) ∧ r.2.sem = fun _ => 0 :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => task m hr)
    (fun q _ => match q with | 0 => SparseCore.Cfg.VecSplit.of_plain (split m))
    m ρ main (fun _ => iprop(emp)) (FIN m) (u₀ (F := F)) (sep_elim_left.trans (hu₀ m)) (hmain m ρ) (fun d st => Ends m st.mem.mem d)
    (hfin m) _ (fun _ h hz => ⟨h, hz⟩)

end Cert.Proof

end
-- ==== Proof.Argmax.lean ====
/-
  The position of the largest word in a row, as a fold over (word, position) pairs computes it.

  The reducing step keeps the pair with the larger word, read signed, and the smaller position among equal words
  (`keeps`). Whatever step acts so, the fold over row `n` of a token array ends with the position `eotAt tok n`
  (`argmax_eq`). The start pair, the least word at position zero, wins only over a row of least words, and then zero is
  the right position.
-/
module

public import proofs.«01_k».proof.Proof.Spec
public import Idealize.ShloMosaic.PureOps.Reduce
public import Idealize.ShloMosaic.Lib.Affine

@[expose] public section

noncomputable section

namespace Cert.Proof

open Idealize.ShloMosaic Idealize.ShloMosaic.ValueIdx

/-- A word with its position. -/
abbrev Entry := BitVec 32 × BitVec 32

/-- `a` is at least as good as `b`: a larger word, or the same word at a position that is no greater. -/
def Beats (a b : Entry) : Prop := b.1.toInt < a.1.toInt ∨ (a.1 = b.1 ∧ a.2.toInt ≤ b.2.toInt)

theorem Beats.refl (a : Entry) : Beats a a := Or.inr ⟨rfl, le_rfl⟩

theorem Beats.trans {a b c : Entry} (h : Beats a b) (h' : Beats b c) : Beats a c := by
  rcases h with h | ⟨h1, h2⟩ <;> rcases h' with h' | ⟨h1', h2'⟩
  · exact Or.inl (h'.trans h)
  · exact Or.inl (h1' ▸ h)
  · exact Or.inl (h1.symm ▸ h')
  · exact Or.inr ⟨h1.trans h1', h2.trans h2'⟩

/-- The step keeps one of its two entries, and the one it keeps beats both. -/
def Keeps (f : Entry → Entry → Entry) : Prop := ∀ a b, (f a b = a ∨ f a b = b) ∧ Beats (f a b) a ∧ Beats (f a b) b

/-- A step that keeps the left entry exactly when its word is larger, or equal at a smaller position. -/
theorem keeps_of {f : Entry → Entry → Entry}
    (hl : ∀ a b : Entry, b.1.toInt < a.1.toInt ∨ (a.1 = b.1 ∧ a.2.toInt < b.2.toInt) → f a b = a)
    (hr : ∀ a b : Entry, ¬ (b.1.toInt < a.1.toInt ∨ (a.1 = b.1 ∧ a.2.toInt < b.2.toInt)) → f a b = b) : Keeps f := by
  intro a b
  by_cases h : b.1.toInt < a.1.toInt ∨ (a.1 = b.1 ∧ a.2.toInt < b.2.toInt)
  · rw [hl a b h]
    refine ⟨Or.inl rfl, Beats.refl a, ?_⟩
    rcases h with h | ⟨h1, h2⟩
    · exact Or.inl h
    · exact Or.inr ⟨h1, h2.le⟩
  · rw [hr a b h]
    refine ⟨Or.inr rfl, ?_, Beats.refl b⟩
    rw [not_or, not_lt] at h
    rcases lt_or_eq_of_le h.1 with h1 | h1
    · exact Or.inl h1
    · have he : a.1 = b.1 := BitVec.eq_of_toInt_eq h1
      exact Or.inr ⟨he.symm, not_lt.1 fun h2 => h.2 ⟨he, h2⟩⟩

/-- The fold ends with the start entry or one of the list's, and what it ends with beats them all. -/
theorem foldl_keeps {f : Entry → Entry → Entry} (hf : Keeps f) : ∀ (l : List Entry) (p : Entry),
    (l.foldl f p = p ∨ l.foldl f p ∈ l) ∧ Beats (l.foldl f p) p ∧ ∀ q ∈ l, Beats (l.foldl f p) q
  | [], p => ⟨Or.inl rfl, Beats.refl p, fun _ h => absurd h List.not_mem_nil⟩
  | q :: l, p => by
    obtain ⟨h1, h2, h3⟩ := foldl_keeps hf l (f p q)
    obtain ⟨g1, g2, g3⟩ := hf p q
    rw [List.foldl_cons]
    refine ⟨?_, h2.trans g2, fun r hr => ?_⟩
    · rcases h1 with h1 | h1
      · rcases g1 with g1 | g1
        · exact Or.inl (h1.trans g1)
        · exact Or.inr (List.mem_cons.2 (Or.inl (h1.trans g1)))
      · exact Or.inr (List.mem_cons_of_mem _ h1)
    · rcases List.mem_cons.1 hr with rfl | hr
      · exact h2.trans g3
      · exact h3 r hr

/-- Row `n` of the array is what reduces into position `n`. -/
theorem drop_row (h : (⟨2, ![1024, 77]⟩ : Shape).ReducesTo [1] ⟨1, ![1024]⟩) (i : (⟨2, ![1024, 77]⟩ : Shape).Idx) (n : Fin 1024) :
    h.drop i = ix1 n ↔ i 0 = n := by
  have hv : (h.drop i 0 : Nat) = i 0 := Shape.ReducesTo.drop_apply_val h i 0
  constructor
  · intro e; rw [e] at hv; exact Fin.ext hv.symm
  · intro e
    funext b
    have hb : b = 0 := Subsingleton.elim _ _
    subst hb
    exact Fin.ext (by rw [hv, e])

/-- The fold's position over row `n`, from the least word at position zero, is the row's end of text. -/
theorem argmax_eq {f : Entry → Entry → Entry} (hf : Keeps f) (tok : (⟨2, ![1024, 77]⟩ : Shape).Idx → BitVec 32) {u : Shape}
    (h : (⟨2, ![1024, 77]⟩ : Shape).ReducesTo [1] ⟨1, ![1024]⟩) (hu : 0 < u.numel) (n : Fin 1024) :
    (Host.reduce2 f tok (iotaInDim ⟨2, ![1024, 77]⟩ 32 1) (constantI u 32 2147483648#32) (constantI u 32 0#32) h hu (ix1 n)).2
      = BitVec.ofNat 32 (eotAt tok n).val := by
  rw [Host.reduce2_eq_foldl_fiber]
  set l := Host.argReduceFiber tok (iotaInDim ⟨2, ![1024, 77]⟩ 32 1) h (ix1 n) with hl
  have hin : ∀ j : Fin 77, (tokRow tok n j, BitVec.ofNat 32 j.val) ∈ l := fun j => by
    rw [hl, Host.argReduceFiber, List.mem_map]
    refine ⟨(⟨2, ![1024, 77]⟩ : Shape).rowMajor (ix2 n j), List.mem_filter.2 ⟨List.mem_finRange _, ?_⟩, ?_⟩
    · rw [decide_eq_true_eq, Equiv.symm_apply_apply, drop_row]
    · rw [Equiv.symm_apply_apply]; rfl
  have hout : ∀ p ∈ l, ∃ j : Fin 77, p = (tokRow tok n j, BitVec.ofNat 32 j.val) := fun p hp => by
    rw [hl, Host.argReduceFiber, List.mem_map] at hp
    obtain ⟨k, hk, rfl⟩ := hp
    have hk' := (List.mem_filter.1 hk).2
    rw [decide_eq_true_eq, drop_row] at hk'
    refine ⟨(⟨2, ![1024, 77]⟩ : Shape).rowMajor.symm k 1, ?_⟩
    have hi : (⟨2, ![1024, 77]⟩ : Shape).rowMajor.symm k = ix2 n ((⟨2, ![1024, 77]⟩ : Shape).rowMajor.symm k 1) := by
      rw [← hk']; exact eq_ix2 _
    exact Prod.ext (congrArg tok hi) rfl
  have hnat : ∀ j : Fin 77, (BitVec.ofNat 32 j.val).toInt = j.val := fun j => by
    have hj := j.isLt
    rw [BitVec.toInt_eq_toNat_of_lt (by rw [BitVec.toNat_ofNat]; omega), BitVec.toNat_ofNat, Nat.mod_eq_of_lt (by omega)]
  obtain ⟨h1, _, h3⟩ := foldl_keeps hf l (2147483648#32, 0#32)
  show (l.foldl f (2147483648#32, 0#32)).2 = _
  generalize hr : l.foldl f (2147483648#32, 0#32) = r at h1 h3
  rcases h1 with rfl | h1
  · have hmin : ∀ j, tokRow tok n j = 2147483648#32 := fun j => by
      rcases h3 _ (hin j) with h | ⟨h, _⟩
      · have hlt := BitVec.le_toInt (tokRow tok n j)
        have hm : (2147483648#32 : BitVec 32).toInt = -2147483648 := by decide
        change (tokRow tok n j).toInt < (2147483648#32 : BitVec 32).toInt at h
        rw [hm] at h
        norm_num at hlt
        omega
      · exact h.symm
    have he : eotAt tok n = 0 := eot_eq ⟨fun j => by rw [hmin j, hmin 0], fun j hj => absurd hj (Fin.not_lt_zero j)⟩
    rw [he]; rfl
  · obtain ⟨e, rfl⟩ := hout r h1
    have he : eotAt tok n = e := by
      refine eot_eq ⟨fun j => ?_, fun j hj => ?_⟩
      · rcases h3 _ (hin j) with h | ⟨h, _⟩
        · exact le_of_lt h
        · exact le_of_eq (congrArg BitVec.toInt h.symm)
      · rcases h3 _ (hin j) with h | ⟨_, h⟩
        · exact h
        · change (BitVec.ofNat 32 e.val).toInt ≤ (BitVec.ofNat 32 j.val).toInt at h
          rw [hnat, hnat] at h
          have := Fin.lt_def.1 hj
          omega
    rw [he]

end Cert.Proof

end
-- ==== Proof.Pre.lean ====
/-
  What the precondition says: every row's end of text lies in columns 5 to 59. And the reducing step of the argument
  maximum keeps the better of its two entries, in the precondition and in the reference alike.
-/
module

public import proofs.«01_k».proof.Proof.Argmax
public import proofs.«01_k».proof.Pre_eot_in_range
public import proofs.«01_k».proof.Proof.Gen.Pre_eot_in_range
public import proofs.«01_k».proof.ReferenceIdeal
public import Idealize.ShloMosaic.Lib.ReduceAll

@[expose] public section

noncomputable section

namespace Cert.Proof

open Idealize.ShloMosaic Idealize.ShloMosaic.ValueIdx

/-- A selection on a bit that says `P` is the selection on `P`. -/
theorem select_iff {α : Type} {c : BitVec 1} {P : Prop} [Decidable P] (h : c = 1#1 ↔ P) (x y : α) :
    Scalar.select c x y = if P then x else y := by
  by_cases hp : P
  · rw [if_pos hp, h.2 hp]; rfl
  · have hc : c = 0#1 := (by decide : ∀ c : BitVec 1, ¬ c = 1#1 → c = 0#1) c fun hc => hp (h.1 hc)
    rw [if_neg hp, hc]; rfl

theorem keeps_pre : Keeps Cert.Pre_eot_in_range.reducer_argmax_i32_i32 := by
  have hw : ∀ a b : Entry, IntOp.ori (IntOp.cmpi .sgt a.1 b.1) (IntOp.cmpi .ne a.1 a.1) = 1#1 ↔ b.1.toInt < a.1.toInt := by
    intro a b
    rw [IntOp.ori_eq_one, IntOp.cmpi_sgt, IntOp.cmpi_ne]
    exact or_iff_left fun h => h rfl
  have hp : ∀ a b : Entry, IntOp.ori (IntOp.ori (IntOp.cmpi .sgt a.1 b.1) (IntOp.cmpi .ne a.1 a.1))
        (IntOp.andi (IntOp.cmpi .eq a.1 b.1) (IntOp.cmpi .slt a.2 b.2)) = 1#1
      ↔ b.1.toInt < a.1.toInt ∨ (a.1 = b.1 ∧ a.2.toInt < b.2.toInt) := by
    intro a b
    rw [IntOp.ori_eq_one, hw, IntOp.andi_eq_one, IntOp.cmpi_eq, IntOp.cmpi_slt]
  refine keeps_of (fun a b h => Prod.ext ?_ ?_) (fun a b h => Prod.ext ?_ ?_)
  · refine (select_iff (hw a b) _ _).trans ?_
    split
    · rfl
    · next hn => exact ((h.resolve_left hn).1).symm
  · exact (select_iff (hp a b) _ _).trans (if_pos h)
  · exact (select_iff (hw a b) _ _).trans (if_neg fun h1 => h (Or.inl h1))
  · exact (select_iff (hp a b) _ _).trans (if_neg h)

theorem keeps_ref : Keeps Cert.ReferenceIdeal.reducer_argmax_i32_i32 := keeps_pre

/-- The precondition's value at the one index of its result is the conjunction over the rows. -/
theorem inRange_of_pre {F : FTy → Type} [FloatOps F]
    (emb : (⟨3, ![1024, 77, 512]⟩ : Shape).Idx → F .f32) (tok : (⟨2, ![1024, 77]⟩ : Shape).Idx → BitVec 32)
    (tab : (⟨2, ![77, 512]⟩ : Shape).Idx → F .f32)
    (h : Cert.Pre_eot_in_range.fn emb tok tab = fun _ => 1#1) : InRange tok := by
  intro n
  have h0 := congrFun h (fun a => a.elim0)
  dsimp only [Cert.Pre_eot_in_range.fn] at h0
  haveI : Subsingleton (Cert.Pre_eot_in_range.S_).Idx := ⟨fun a b => funext fun i => i.elim0⟩
  have h1 := Host.reduce_andi_all _ _ _ _ _ h0 (ix1 n)
  have h2 : IntOp.cmpi .sge (Cert.Pre_eot_in_range.fn_argmax (F := F) tok (ix1 n)) 5#32 = 1#1
      ∧ IntOp.cmpi .slt (Cert.Pre_eot_in_range.fn_argmax (F := F) tok (ix1 n)) 60#32 = 1#1 := IntOp.andi_eq_one.1 h1
  rw [show Cert.Pre_eot_in_range.fn_argmax (F := F) tok (ix1 n) = BitVec.ofNat 32 (eotAt tok n).val from
    argmax_eq keeps_pre tok _ _ n, IntOp.cmpi_sge, IntOp.cmpi_slt] at h2
  have he := (eotAt tok n).isLt
  rw [BitVec.toInt_eq_toNat_of_lt (x := BitVec.ofNat 32 (eotAt tok n).val) (by rw [BitVec.toNat_ofNat]; omega), BitVec.toNat_ofNat,
    Nat.mod_eq_of_lt (by omega)] at h2
  have h5 : (5#32 : BitVec 32).toInt = 5 := by decide
  have h60 : (60#32 : BitVec 32).toInt = 60 := by decide
  obtain ⟨h2, h3⟩ := h2
  rw [h5] at h2
  rw [h60] at h3
  omega

end Cert.Proof

end
-- ==== Proof.Frames.lean ====
/-
  The frames: each program ends with its three argument arrays unchanged and every semaphore counter at zero. The two
  kernels have the same text, so both frames are the one run of `run_main`; the reference is a straight line of host
  operations on a machine without semaphores.
-/
module

public import proofs.«01_k».proof.Proof.Launch
public import proofs.«01_k».proof.Proof.Pre
public import proofs.«01_k».proof.Proof.Gen.Kernel
public import proofs.«01_k».proof.Proof.Gen.ReferenceIdeal
public import Idealize.ShloMosaic.Lib.Claim

@[expose] public section

noncomputable section

namespace Cert.Proof

open Idealize.ShloMosaic Idealize.SL.Sem

theorem frame_kernelIdeal : Cert.quiescent_KernelIdeal := fun m g hpre =>
  θ_run_mono (run_main m g fun d => inRange_of_pre _ _ _ (hpre d)) fun _ h =>
    ⟨fun c => ⟨(h.1 c).1, (h.1 c).2.1, (h.1 c).2.2.1⟩, h.2⟩

theorem frame_kernel : Cert.quiescent_Kernel := fun m g hpre =>
  (θ_run Cert.KernelIdeal.defs _ _).mono (fun _ h => ⟨fun c => ⟨(h.1 c).1, (h.1 c).2.1, (h.1 c).2.2.1⟩, h.2⟩)
    (run_main (F := Bits) m g fun d => inRange_of_pre (F := Bits) _ _ _ (hpre d))

set_option maxRecDepth 100000 in
theorem frame_reference : Cert.quiescent_ReferenceIdeal := by
  intro m g _
  hlo_run
  · exact fun _ => ⟨trivial, trivial, trivial⟩
  · exact sem_eq_zero_of_no_sems (sig := Cert.ReferenceIdeal.sig) (by decide) _

end Cert.Proof

end
-- ==== Proof.Ref.lean ====
/-
  The reference's run. Its results are named here piece by piece, as the arrays its operations compute: the end of every
  text (`rEnd`), the three masks of the owned positions (`rFirst`, `rMid`, `rLast`), the row each position copies
  (`rSrc`), the two gathers that take those rows (`rTakeEmb`, `rTakeTok`) and the shared table read at every position
  (`rTakeTab`).
-/
module

public import proofs.«01_k».proof.Defs
public import proofs.«01_k».proof.Proof.Gen.ReferenceIdeal
public import Idealize.ShloMosaic.Lib.Claim

@[expose] public section

noncomputable section

namespace Cert.Proof

open Idealize.ShloMosaic Idealize.SL.Sem Cert.ReferenceIdeal Cert.ReferenceIdeal.Facts₀

section Pieces

variable {F : FTy → Type} [FloatOps F]

/-- A word repeated over the 77 positions. -/
def rWord (w : BitVec 32) : IVec S77 32 := broadcastInDim S77 ![] bcast_S_S77 (constantI S_ 32 w)

/-- A word repeated over the 1024 classes. -/
def rWords (w : BitVec 32) : IVec S1024 32 := broadcastInDim S1024 ![] bcast_S_S1024 (constantI S_ 32 w)

/-- A row of 77 repeated for every class, in two steps. -/
def rRow {α : Type} (x : S77.Idx → α) : S1024x77.Idx → α :=
  broadcastInDim S1024x77 ![0, 1] bcast_S1x77_S1024x77_0_1 (broadcastInDim S1x77 ![1] bcast_S77_S1x77_1 x)

/-- A column of 1024 repeated for every position, in two steps. -/
def rCol {α : Type} (x : S1024.Idx → α) : S1024x77.Idx → α :=
  broadcastInDim S1024x77 ![0, 1] bcast_S1024x1_S1024x77_0_1 (broadcastInDim S1024x1 ![0] bcast_S1024_S1024x1_0 x)

/-- A row of 77 repeated for every class, in one step. -/
def rRow1 {α : Type} (x : S77.Idx → α) : S1024x77.Idx → α := broadcastInDim S1024x77 ![1] bcast_S77_S1024x77_1 x

/-- The positions 0 to 76. -/
def rPos : IVec S77 32 := iotaInDim S77 32 0

/-- The end of every text. -/
def rEnd (tok : IVec S1024x77 32) : IVec S1024 32 := fun j =>
  (Host.reduce2 reducer_argmax_i32_i32 tok (iotaInDim S1024x77 32 1) (constantI S_ 32 2147483648#32) (constantI S_ 32 0#32)
    reducesTo_S1024x77_S1024_d1 h_S_ j).2

/-- The first position. -/
def rFirst : IVec S77 1 := cmpi .eq rPos (rWord 0#32)

/-- The middle positions: from 9 up to 8 past the end of the text. -/
def rMid (tok : IVec S1024x77 32) : IVec S1024x77 1 :=
  andi (rRow (cmpi .sge rPos (rWord 9#32))) (cmpi .slt (rRow rPos) (rCol (addi (rWords 8#32) (rEnd tok))))

/-- The position 16 past the end of the text. -/
def rLast (tok : IVec S1024x77 32) : IVec S1024x77 1 :=
  cmpi .eq (rRow rPos) (rCol (addi (addi (rWords 8#32) (rEnd tok)) (rWords 8#32)))

/-- The row each position copies. -/
def rSrc (tok : IVec S1024x77 32) : IVec S1024x77 32 :=
  select (rRow1 rFirst) (rRow1 (rWord 0#32))
    (select (rMid tok) (rRow1 (subi rPos (rWord 8#32)))
      (select (rLast tok) (broadcastInDim S1024x77 ![0] bcast_S1024_S1024x77_0 (rEnd tok)) (rRow1 (rWord 0#32))))

/-- The owned positions. -/
def rOwn (tok : IVec S1024x77 32) : IVec S1024x77 1 := ori (ori (rRow rFirst) (rMid tok)) (rLast tok)

/-- Indices into 77 rows: a negative one counts from the end. -/
def rIdx (x : IVec S1024x77 32) : IVec S1024x77x1 32 :=
  broadcastInDim S1024x77x1 ![0, 1] bcast_S1024x77_S1024x77x1_0_1
    (select (cmpi .slt x (broadcastInDim S1024x77 ![] bcast_S_S1024x77 (constantI S_ 32 0#32)))
      (addi x (broadcastInDim S1024x77 ![] bcast_S_S1024x77 (constantI S_ 32 77#32))) x)

/-- The indices that lie in 0 to 76. -/
def rOk (i : IVec S1024x77x1 32) : IVec S1024x77 1 :=
  Host.reduce IntOp.andi
    (andi (cmpi .sge i (broadcastInDim S1024x77x1 ![] bcast_S_S1024x77x1 (constantI S_ 32 0#32)))
      (cmpi .sle i (broadcastInDim S1024x77x1 ![0, 1, 2] bcast_S1x1x1_S1024x77x1_0_1_2
        (broadcastInDim S1x1x1 ![2] bcast_S1_S1x1x1_2 (constantI S1 32 76#32)))))
    (constantI S_ 1 1#1) reducesTo_S1024x77x1_S1024x77_d2 h_S_

/-- The embedding rows at the given indices. -/
def rTakeEmb (emb : FVec F S1024x77x512 .f32) (x : IVec S1024x77 32) : FVec F S1024x77x512 .f32 :=
  select (broadcastInDim S1024x77x512 ![0, 1] bcast_S1024x77_S1024x77x512_0_1 (rOk (rIdx x)))
    (Host.gather gather_S1024x77x512_S1024x77x1_S1024x77x512_2_1_0_0_1_2_11512 emb (rIdx x))
    (broadcastInDim S1024x77x512 ![] bcast_S_S1024x77x512 (constant S_ .f32 0x7FC00000#32))

/-- The token words at the given indices. -/
def rTakeTok (tok : IVec S1024x77 32) (x : IVec S1024x77 32) : IVec S1024x77 32 :=
  select (rOk (rIdx x)) (Host.gather gather_S1024x77_S1024x77x1_S1024x77_n_1_0_0_1_2_11 tok (rIdx x))
    (broadcastInDim S1024x77 ![] bcast_S_S1024x77 (constantI S_ 32 2147483648#32))

/-- The positions as indices into the table. -/
def rTabIdx : IVec S77x1 32 :=
  broadcastInDim S77x1 ![0] bcast_S77_S77x1_0 (select (cmpi .slt rPos (rWord 0#32)) (addi rPos (rWord 77#32)) rPos)

/-- Those of them that lie in 0 to 76. -/
def rTabOk : IVec S77 1 :=
  Host.reduce IntOp.andi
    (andi (cmpi .sge rTabIdx (broadcastInDim S77x1 ![] bcast_S_S77x1 (constantI S_ 32 0#32)))
      (cmpi .sle rTabIdx (broadcastInDim S77x1 ![0, 1] bcast_S1x1_S77x1_0_1
        (broadcastInDim S1x1 ![1] bcast_S1_S1x1_1 (constantI S1 32 76#32)))))
    (constantI S_ 1 1#1) reducesTo_S77x1_S77_d1 h_S_

/-- The table's rows at the positions. -/
def rTakeTab (tab : FVec F S77x512 .f32) : FVec F S77x512 .f32 :=
  select (broadcastInDim S77x512 ![0] bcast_S77_S77x512_0 rTabOk)
    (Host.gather gather_S77x512_S77x1_S77x512_1_0_n_n_0_1_1512 tab rTabIdx)
    (broadcastInDim S77x512 ![] bcast_S_S77x512 (constant S_ .f32 0x7FC00000#32))

/-- The first result. -/
def rOut (emb : FVec F S1024x77x512 .f32) (tok : IVec S1024x77 32) (tab : FVec F S77x512 .f32) : FVec F S1024x77x512 .f32 :=
  select (broadcastInDim S1024x77x512 ![0, 1, 2] bcast_S1024x77x1_S1024x77x512_0_1_2
      (broadcastInDim S1024x77x1 ![0, 1] bcast_S1024x77_S1024x77x1_0_1 (rOwn tok)))
    (rTakeEmb emb (rSrc tok)) (broadcastInDim S1024x77x512 ![1, 2] bcast_S77x512_S1024x77x512_1_2 (rTakeTab tab))

/-- The second result. -/
def rOutTok (tok : IVec S1024x77 32) : FVec F S1024x77 .f32 :=
  select (rOwn tok) (sitofp .f32 (rTakeTok tok (rSrc tok)))
    (rRow1 (broadcastInDim S77 ![] bcast_S_S77 (constant S_ .f32 0x00000000#32)))

end Pieces

set_option maxRecDepth 100000 in
/-- The reference ends with its two results at those values and its arguments unchanged. -/
theorem run_reference (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v38)
        = rOut (F := Ideal) (m ((c.tc : Thread nD τ).loc main_arg0)) (m ((c.tc : Thread nD τ).loc main_arg1)) (m ((c.tc : Thread nD τ).loc main_arg2))
      ∧ r.2.mem ((c.tc : Thread nD τ).loc main_v41) = rOutTok (F := Ideal) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  hlo_run
  · simp -implicitDefEqProofs only [StableHlo.TRef.ofBuf_toBuf, StableHlo.TRef.toBuf, StableHlo.TRef.ofBuf, cast_cast, cast_eq]
    rfl
  · simp -implicitDefEqProofs only [StableHlo.TRef.ofBuf_toBuf, StableHlo.TRef.toBuf, StableHlo.TRef.ofBuf, cast_cast, cast_eq]
    rfl

end Cert.Proof

end
-- ==== Proof.RefRow.lean ====
/-
  The reference's masks and the row each position copies, read at a class `n` and a position `p`. With the end of the
  text at `e`, the masks say `own e p` (`own_at`) and the copied row is `pos e p` (`src_at`).
-/
module

public import proofs.«01_k».proof.Proof.Ref
public import proofs.«01_k».proof.Proof.Pre
public import Idealize.ShloMosaic.Lib.StableHlo.Predicate
public import Idealize.ShloMosaic.Lib.Pipeline.Value

@[expose] public section

noncomputable section

namespace Cert.Proof

open Idealize.ShloMosaic Idealize.ShloMosaic.ValueIdx Idealize.ShloMosaic.Pipeline Cert.ReferenceIdeal Cert.ReferenceIdeal.Facts₀

/-- A small word reads, signed, as the number it holds. -/
theorem word_toInt {k : ℕ} (hk : k < 1000) : (BitVec.ofNat 32 k).toInt = k :=
  StableHlo.Predicate.toInt_ofNat_small k (by omega)

theorem word_inj {a b : ℕ} (ha : a < 1000) (hb : b < 1000) : BitVec.ofNat 32 a = BitVec.ofNat 32 b ↔ a = b := by
  refine ⟨fun h => ?_, fun h => h ▸ rfl⟩
  have h' := congrArg BitVec.toInt h
  rw [word_toInt ha, word_toInt hb] at h'
  omega

theorem word_add (a b : ℕ) : IntOp.addi (BitVec.ofNat 32 a) (BitVec.ofNat 32 b) = BitVec.ofNat 32 (a + b) :=
  (BitVec.ofNat_add ..).symm

theorem word_sub {a b : ℕ} (h : b ≤ a) (ha : a < 1000) : IntOp.subi (BitVec.ofNat 32 a) (BitVec.ofNat 32 b) = BitVec.ofNat 32 (a - b) := by
  refine BitVec.eq_of_toNat_eq ?_
  show (BitVec.ofNat 32 a - BitVec.ofNat 32 b).toNat = _
  rw [BitVec.toNat_sub, BitVec.toNat_ofNat, BitVec.toNat_ofNat, BitVec.toNat_ofNat]
  omega

/-! ## Repeated rows and columns -/

theorem row_at {α : Type} (x : S77.Idx → α) (n : Fin 1024) (p : Fin 77) : rRow x (ix2 n p) = x (ix1 p) := by
  refine (broadcastInDim_apply _ _ _ _ (ix2 0 p) fun a => ?_).trans (broadcastInDim_apply _ _ _ _ (ix1 p) fun a => ?_)
  · match a with
    | ⟨0, _⟩ => rfl
    | ⟨1, _⟩ => rfl
  · match a with
    | ⟨0, _⟩ => rfl

theorem col_at {α : Type} (x : S1024.Idx → α) (n : Fin 1024) (p : Fin 77) : rCol x (ix2 n p) = x (ix1 n) := by
  refine (broadcastInDim_apply _ _ _ _ (ix2 n 0) fun a => ?_).trans (broadcastInDim_apply _ _ _ _ (ix1 n) fun a => ?_)
  · match a with
    | ⟨0, _⟩ => rfl
    | ⟨1, _⟩ => rfl
  · match a with
    | ⟨0, _⟩ => rfl

theorem row1_at {α : Type} (x : S77.Idx → α) (n : Fin 1024) (p : Fin 77) : rRow1 x (ix2 n p) = x (ix1 p) :=
  broadcastInDim_apply _ _ _ _ (ix1 p) fun a => match a with | ⟨0, _⟩ => rfl

theorem col1_at {α : Type} (x : S1024.Idx → α) (n : Fin 1024) (p : Fin 77) :
    broadcastInDim S1024x77 ![0] bcast_S1024_S1024x77_0 x (ix2 n p) = x (ix1 n) :=
  broadcastInDim_apply _ _ _ _ (ix1 n) fun a => match a with | ⟨0, _⟩ => rfl

/-! ## The masks -/

variable (tok : IVec S1024x77 32) (n : Fin 1024) (p : Fin 77)

theorem end_at : rEnd tok (ix1 n) = BitVec.ofNat 32 (eotAt tok n).val := argmax_eq keeps_ref tok _ _ n

theorem first_at : rFirst (ix1 p) = 1#1 ↔ p.val = 0 := by
  show IntOp.cmpi .eq (BitVec.ofNat 32 p.val) (BitVec.ofNat 32 0) = 1#1 ↔ _
  rw [IntOp.cmpi_eq]
  exact word_inj (by omega) (by omega)

theorem mid_at : rMid tok (ix2 n p) = 1#1 ↔ 9 ≤ p.val ∧ p.val < 8 + (eotAt tok n).val := by
  have he := (eotAt tok n).isLt
  show IntOp.andi (rRow (cmpi .sge rPos (rWord 9#32)) (ix2 n p))
    (IntOp.cmpi .slt (rRow rPos (ix2 n p)) (rCol (addi (rWords 8#32) (rEnd tok)) (ix2 n p))) = 1#1 ↔ _
  rw [row_at, row_at, col_at, IntOp.andi_eq_one]
  show IntOp.cmpi .sge (BitVec.ofNat 32 p.val) (BitVec.ofNat 32 9) = 1#1
    ∧ IntOp.cmpi .slt (BitVec.ofNat 32 p.val) (IntOp.addi (BitVec.ofNat 32 8) (rEnd tok (ix1 n))) = 1#1 ↔ _
  rw [end_at, word_add, IntOp.cmpi_sge, IntOp.cmpi_slt, word_toInt (by omega), word_toInt (by omega), word_toInt (by omega)]
  omega

theorem last_at : rLast tok (ix2 n p) = 1#1 ↔ p.val = 16 + (eotAt tok n).val := by
  have he := (eotAt tok n).isLt
  show IntOp.cmpi .eq (rRow rPos (ix2 n p)) (rCol (addi (addi (rWords 8#32) (rEnd tok)) (rWords 8#32)) (ix2 n p)) = 1#1 ↔ _
  rw [row_at, col_at, IntOp.cmpi_eq]
  show BitVec.ofNat 32 p.val = IntOp.addi (IntOp.addi (BitVec.ofNat 32 8) (rEnd tok (ix1 n))) (BitVec.ofNat 32 8) ↔ _
  rw [end_at, word_add, word_add, word_inj (by omega) (by omega)]
  omega

theorem own_at : rOwn tok (ix2 n p) = 1#1 ↔ own (eotAt tok n).val p.val := by
  show IntOp.ori (IntOp.ori (rRow rFirst (ix2 n p)) (rMid tok (ix2 n p))) (rLast tok (ix2 n p)) = 1#1 ↔ _
  rw [IntOp.ori_eq_one, IntOp.ori_eq_one, row_at, first_at, mid_at, last_at, or_assoc]
  exact Iff.rfl

theorem src_at : rSrc tok (ix2 n p) = BitVec.ofNat 32 (pos (eotAt tok n).val p.val) := by
  show Scalar.select (rRow1 rFirst (ix2 n p)) (rRow1 (rWord 0#32) (ix2 n p))
    (Scalar.select (rMid tok (ix2 n p)) (rRow1 (subi rPos (rWord 8#32)) (ix2 n p))
      (Scalar.select (rLast tok (ix2 n p)) (broadcastInDim S1024x77 ![0] bcast_S1024_S1024x77_0 (rEnd tok) (ix2 n p))
        (rRow1 (rWord 0#32) (ix2 n p)))) = _
  rw [row1_at, row1_at, row1_at, col1_at, end_at, select_iff (first_at p), select_iff (mid_at tok n p), select_iff (last_at tok n p)]
  unfold pos
  split
  · rfl
  · split
    · next h => exact word_sub (a := p.val) (b := 8) (by omega) (by omega)
    · split <;> rfl

end Cert.Proof

end
-- ==== Proof.RefTake.lean ====
/-
  The reference's gathers, read at a class `n`, a position `p` and a column `c`. Where every index lies in 0 to 76 the
  bounds check passes and the gather takes the row the index names.
-/
module

public import proofs.«01_k».proof.Proof.RefRow

@[expose] public section

noncomputable section

namespace Cert.Proof

open Idealize.ShloMosaic Idealize.ShloMosaic.ValueIdx Idealize.ShloMosaic.Pipeline Cert.ReferenceIdeal Cert.ReferenceIdeal.Facts₀

/-- The indices are the numbers `k`, all below 77. -/
def Names (x : IVec S1024x77 32) (k : Fin 1024 → Fin 77 → Fin 77) : Prop := ∀ n p, x (ix2 n p) = BitVec.ofNat 32 (k n p).val

/-- Where the condition holds, a selection is its first operand. -/
theorem select_of {α : Type} {s : Shape} {c : IVec s 1} {i : s.Idx} (h : c i = 1#1) (x y : s.Idx → α) : select c x y i = x i := by
  show Scalar.select (c i) (x i) (y i) = x i
  rw [h]; rfl

/-- A number below 77 is not negative, so the fix-up for negative indices leaves it. -/
theorem wrap_word (k : Fin 77) (y : BitVec 32) :
    Scalar.select (IntOp.cmpi .slt (BitVec.ofNat 32 k.val) 0#32) y (BitVec.ofNat 32 k.val) = BitVec.ofNat 32 k.val := by
  have h0 : (0#32 : BitVec 32).toInt = 0 := by decide
  refine (select_iff IntOp.cmpi_slt _ _).trans (if_neg ?_)
  rw [word_toInt (by omega), h0]
  omega

/-- And it passes the bounds check. -/
theorem ok_word (k : Fin 77) :
    IntOp.andi (IntOp.cmpi .sge (BitVec.ofNat 32 k.val) 0#32) (IntOp.cmpi .sle (BitVec.ofNat 32 k.val) 76#32) = 1#1 := by
  have h0 : (0#32 : BitVec 32).toInt = 0 := by decide
  have h76 : (76#32 : BitVec 32).toInt = 76 := by decide
  rw [IntOp.andi_eq_one, IntOp.cmpi_sge, IntOp.cmpi_sle, word_toInt (k := k.val) (by omega), h0, h76]
  omega

/-- Clamped into the 77 rows it stays. -/
theorem clamp_word (k : Fin 77) : min (BitVec.ofNat 32 k.val).toInt.toNat (77 - 1) = k.val := by
  rw [word_toInt (by omega), Int.toNat_natCast]
  omega

section
variable {x : IVec S1024x77 32} {k : Fin 1024 → Fin 77 → Fin 77}

theorem idx_at (hx : Names x k) (n : Fin 1024) (p : Fin 77) (u : Fin 1) : rIdx x (ix3 n p u) = BitVec.ofNat 32 (k n p).val := by
  refine (broadcastInDim_apply _ _ _ _ (ix2 n p) fun a => ?_).trans ?_
  · match a with
    | ⟨0, _⟩ => rfl
    | ⟨1, _⟩ => rfl
  · show Scalar.select (IntOp.cmpi .slt (x (ix2 n p)) 0#32) (IntOp.addi (x (ix2 n p)) 77#32) (x (ix2 n p)) = _
    rw [hx n p]
    exact wrap_word _ _

theorem ok_at (hx : Names x k) (j : S1024x77.Idx) : rOk (rIdx x) j = 1#1 := by
  refine Host.reduce_andi_one _ _ _ _ _ rfl fun i => ?_
  obtain ⟨n, p, u, rfl⟩ : ∃ (n : Fin 1024) (p : Fin 77) (u : Fin 1), i = ix3 n p u := ⟨i 0, i 1, i 2, eq_ix3 i⟩
  show IntOp.andi (IntOp.cmpi .sge (rIdx x (ix3 n p u)) 0#32) (IntOp.cmpi .sle (rIdx x (ix3 n p u)) 76#32) = 1#1
  rw [idx_at hx]
  exact ok_word _

section
variable {α : Type}

/-- The three-axis gather: class `n`'s row at the index, column `c`. -/
theorem gather3_at (hx : Names x k) (f : S1024x77x512.Idx → α) (n : Fin 1024) (p : Fin 77) (c : Fin 512) :
    Host.gather gather_S1024x77x512_S1024x77x1_S1024x77x512_2_1_0_0_1_2_11512 f (rIdx x) (ix3 n p c) = f (ix3 n (k n p) c) := by
  set D := gather_S1024x77x512_S1024x77x1_S1024x77x512_2_1_0_0_1_2_11512 with hD
  unfold Host.gather
  refine congrArg f (funext fun a => Fin.ext ?_)
  show D.start (ix3 n p c) (rIdx x) a + D.batchCoord (ix3 n p c) a + D.offCoord (ix3 n p c) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [D.start_batching _ _ _ (List.mem_singleton.mpr rfl),
      D.offCoord_eq_zero _ _ fun h => ((D.mem_sKept _).1 h).2 (List.mem_singleton.mpr rfl), Nat.zero_add, Nat.add_zero]
    unfold GatherDims.batchCoord
    rw [dif_pos (show (0 : Fin 3) ∈ D.operandBatchingDims from List.mem_singleton.mpr rfl)]
    rfl
  · rw [D.batchCoord_eq_zero _ _ (by rw [hD]; decide),
      D.offCoord_eq_zero _ _ fun h => ((D.mem_sKept _).1 h).1 (List.mem_singleton.mpr rfl)]
    simp only [Nat.add_zero]
    unfold GatherDims.start
    rw [dif_pos (show (1 : Fin 3) ∈ D.startIndexMap from List.mem_singleton.mpr rfl)]
    have hs : ∀ q, D.siIdx (ix3 n p c) q = ix3 n p 0 := fun q => by
      funext b
      refine Fin.ext ?_
      match b with
      | ⟨0, _⟩ => rfl
      | ⟨1, _⟩ => rfl
      | ⟨2, _⟩ => exact Nat.lt_one_iff.1 q.isLt
    rw [hs, idx_at hx]
    exact clamp_word _
  · have hn : (2 : Fin 3) ∉ D.startIndexMap := by rw [hD]; decide
    rw [D.batchCoord_eq_zero _ _ (by rw [hD]; decide), Nat.add_zero]
    unfold GatherDims.start GatherDims.offCoord
    rw [dif_neg hn, dif_pos ((D.mem_sKept _).2 ⟨by rw [hD]; decide, by rw [hD]; decide⟩), Nat.zero_add]
    rfl

/-- The two-axis gather: class `n`'s word at the index. -/
theorem gather2_at (hx : Names x k) (f : S1024x77.Idx → α) (n : Fin 1024) (p : Fin 77) :
    Host.gather gather_S1024x77_S1024x77x1_S1024x77_n_1_0_0_1_2_11 f (rIdx x) (ix2 n p) = f (ix2 n (k n p)) := by
  set D := gather_S1024x77_S1024x77x1_S1024x77_n_1_0_0_1_2_11 with hD
  unfold Host.gather
  refine congrArg f (funext fun a => Fin.ext ?_)
  show D.start (ix2 n p) (rIdx x) a + D.batchCoord (ix2 n p) a + D.offCoord (ix2 n p) a = _
  have ha : a = 0 ∨ a = 1 := by
    match a with
    | ⟨0, _⟩ => exact Or.inl rfl
    | ⟨1, _⟩ => exact Or.inr rfl
  rcases ha with rfl | rfl
  · rw [D.start_batching _ _ _ (List.mem_singleton.mpr rfl),
      D.offCoord_eq_zero _ _ fun h => ((D.mem_sKept _).1 h).2 (List.mem_singleton.mpr rfl), Nat.zero_add, Nat.add_zero]
    unfold GatherDims.batchCoord
    rw [dif_pos (show (0 : Fin 2) ∈ D.operandBatchingDims from List.mem_singleton.mpr rfl)]
    rfl
  · rw [D.batchCoord_eq_zero _ _ (by rw [hD]; decide),
      D.offCoord_eq_zero _ _ fun h => ((D.mem_sKept _).1 h).1 (List.mem_singleton.mpr rfl)]
    simp only [Nat.add_zero]
    unfold GatherDims.start
    rw [dif_pos (show (1 : Fin 2) ∈ D.startIndexMap from List.mem_singleton.mpr rfl)]
    have hs : ∀ q, D.siIdx (ix2 n p) q = ix3 n p 0 := fun q => by
      funext b
      refine Fin.ext ?_
      match b with
      | ⟨0, _⟩ => rfl
      | ⟨1, _⟩ => rfl
      | ⟨2, _⟩ => exact Nat.lt_one_iff.1 q.isLt
    rw [hs, idx_at hx]
    exact clamp_word _

end

variable {F : FTy → Type} [FloatOps F]

theorem takeEmb_at (hx : Names x k) (emb : FVec F S1024x77x512 .f32) (n : Fin 1024) (p : Fin 77) (c : Fin 512) :
    rTakeEmb emb x (ix3 n p c) = emb (ix3 n (k n p) c) := by
  have hb : broadcastInDim S1024x77x512 ![0, 1] bcast_S1024x77_S1024x77x512_0_1 (rOk (rIdx x)) (ix3 n p c) = 1#1 :=
    (broadcastInDim_apply _ _ _ _ (ix2 n p) fun a => match a with | ⟨0, _⟩ => rfl | ⟨1, _⟩ => rfl).trans (ok_at hx _)
  unfold rTakeEmb
  rw [select_of hb]
  exact gather3_at hx emb n p c

theorem takeTok_at (hx : Names x k) (tok : IVec S1024x77 32) (n : Fin 1024) (p : Fin 77) :
    rTakeTok tok x (ix2 n p) = tok (ix2 n (k n p)) := by
  unfold rTakeTok
  rw [select_of (ok_at hx _)]
  exact gather2_at hx tok n p

end

/-! ## The table -/

theorem tabIdx_at (p : Fin 77) (u : Fin 1) : rTabIdx (ix2 p u) = BitVec.ofNat 32 p.val :=
  (broadcastInDim_apply _ _ _ _ (ix1 p) fun a => match a with | ⟨0, _⟩ => rfl).trans (wrap_word p _)

theorem tabOk_at (j : S77.Idx) : rTabOk j = 1#1 := by
  refine Host.reduce_andi_one _ _ _ _ _ rfl fun i => ?_
  obtain ⟨p, u, rfl⟩ : ∃ (p : Fin 77) (u : Fin 1), i = ix2 p u := ⟨i 0, i 1, eq_ix2 i⟩
  show IntOp.andi (IntOp.cmpi .sge (rTabIdx (ix2 p u)) 0#32) (IntOp.cmpi .sle (rTabIdx (ix2 p u)) 76#32) = 1#1
  rw [tabIdx_at]
  exact ok_word _

theorem gatherTab_at {α : Type} (f : S77x512.Idx → α) (p : Fin 77) (c : Fin 512) :
    Host.gather gather_S77x512_S77x1_S77x512_1_0_n_n_0_1_1512 f rTabIdx (ix2 p c) = f (ix2 p c) := by
  set D := gather_S77x512_S77x1_S77x512_1_0_n_n_0_1_1512 with hD
  unfold Host.gather
  refine congrArg f (funext fun a => Fin.ext ?_)
  show D.start (ix2 p c) rTabIdx a + D.batchCoord (ix2 p c) a + D.offCoord (ix2 p c) a = _
  have ha : a = 0 ∨ a = 1 := by
    match a with
    | ⟨0, _⟩ => exact Or.inl rfl
    | ⟨1, _⟩ => exact Or.inr rfl
  rcases ha with rfl | rfl
  · rw [D.batchCoord_eq_zero _ _ List.not_mem_nil,
      D.offCoord_eq_zero _ _ fun h => ((D.mem_sKept _).1 h).1 (List.mem_singleton.mpr rfl)]
    simp only [Nat.add_zero]
    unfold GatherDims.start
    rw [dif_pos (show (0 : Fin 2) ∈ D.startIndexMap from List.mem_singleton.mpr rfl)]
    have hs : ∀ q, D.siIdx (ix2 p c) q = ix2 p 0 := fun q => by
      funext b
      refine Fin.ext ?_
      match b with
      | ⟨0, _⟩ => rfl
      | ⟨1, _⟩ => exact Nat.lt_one_iff.1 q.isLt
    rw [hs, tabIdx_at]
    exact clamp_word _
  · have hn : (1 : Fin 2) ∉ D.startIndexMap := by rw [hD]; decide
    rw [D.batchCoord_eq_zero _ _ List.not_mem_nil, Nat.add_zero]
    unfold GatherDims.start GatherDims.offCoord
    rw [dif_neg hn, dif_pos ((D.mem_sKept _).2 ⟨by rw [hD]; decide, List.not_mem_nil⟩), Nat.zero_add]
    rfl

theorem takeTab_at {F : FTy → Type} [FloatOps F] (tab : FVec F S77x512 .f32) (p : Fin 77) (c : Fin 512) :
    rTakeTab tab (ix2 p c) = tab (ix2 p c) := by
  have hb : broadcastInDim S77x512 ![0] bcast_S77_S77x512_0 rTabOk (ix2 p c) = 1#1 :=
    (broadcastInDim_apply _ _ _ _ (ix1 p) fun a => match a with | ⟨0, _⟩ => rfl).trans (tabOk_at _)
  exact (select_of hb _ _).trans (gatherTab_at tab p c)

end Cert.Proof

end
-- ==== Proof.Algebraic.lean ====
/-
  The kernel's two results and the reference's agree, cell by cell, so the two programs end with equal results.
-/
module

public import proofs.«01_k».proof.Proof.Frames
public import proofs.«01_k».proof.Proof.RefTake

@[expose] public section

noncomputable section

namespace Cert.Proof

open Idealize.ShloMosaic Idealize.ShloMosaic.ValueIdx Idealize.ShloMosaic.Pipeline Idealize.SL.Sem

/-! ## The reference's results, cell by cell -/

section
variable {F : FTy → Type} [FloatOps F]

/-- The row position `p` of class `n` copies. -/
def posAt (tok : IVec ⟨2, ![1024, 77]⟩ 32) (n : Fin 1024) (p : Fin 77) : Fin 77 :=
  ⟨pos (eotAt tok n).val p.val, pos_lt (eotAt tok n).isLt p.isLt⟩

theorem names_src (tok : IVec ⟨2, ![1024, 77]⟩ 32) : Names (rSrc tok) (posAt tok) := fun n p => src_at tok n p

/-- An owned position copies its class's row, any other the table's. -/
theorem rOut_at (emb : FVec F ⟨3, ![1024, 77, 512]⟩ .f32) (tok : IVec ⟨2, ![1024, 77]⟩ 32) (tab : FVec F ⟨2, ![77, 512]⟩ .f32)
    (n : Fin 1024) (p : Fin 77) (c : Fin 512) :
    rOut emb tok tab (ix3 n p c)
      = if own (eotAt tok n).val p.val then emb (ix3 n (posAt tok n p) c) else tab (ix2 p c) := by
  have hb : broadcastInDim Cert.ReferenceIdeal.S1024x77x512 ![0, 1, 2] Cert.ReferenceIdeal.Facts₀.bcast_S1024x77x1_S1024x77x512_0_1_2
      (broadcastInDim Cert.ReferenceIdeal.S1024x77x1 ![0, 1] Cert.ReferenceIdeal.Facts₀.bcast_S1024x77_S1024x77x1_0_1 (rOwn tok)) (ix3 n p c)
        = rOwn tok (ix2 n p) :=
    (broadcastInDim_apply _ _ _ _ (ix3 n p 0) fun a => match a with | ⟨0, _⟩ => rfl | ⟨1, _⟩ => rfl | ⟨2, _⟩ => rfl).trans
      (broadcastInDim_apply _ _ _ _ (ix2 n p) fun a => match a with | ⟨0, _⟩ => rfl | ⟨1, _⟩ => rfl)
  have ht : broadcastInDim Cert.ReferenceIdeal.S1024x77x512 ![1, 2] Cert.ReferenceIdeal.Facts₀.bcast_S77x512_S1024x77x512_1_2
      (rTakeTab tab) (ix3 n p c) = tab (ix2 p c) :=
    (broadcastInDim_apply _ _ _ _ (ix2 p c) fun a => match a with | ⟨0, _⟩ => rfl | ⟨1, _⟩ => rfl).trans (takeTab_at tab p c)
  unfold rOut
  rw [← ht, ← takeEmb_at (names_src tok) emb n p c]
  exact select_iff (by rw [hb]; exact own_at tok n p) _ _

theorem rOutTok_at (tok : IVec ⟨2, ![1024, 77]⟩ 32) (n : Fin 1024) (p : Fin 77) :
    rOutTok (F := F) tok (ix2 n p) = cellT tok n p := by
  have hz : rRow1 (broadcastInDim Cert.ReferenceIdeal.S77 ![] Cert.ReferenceIdeal.Facts₀.bcast_S_S77
      (constant (F := F) Cert.ReferenceIdeal.S_ .f32 0x00000000#32)) (ix2 n p) = Scalar.ofBits .f32 0x00000000#32 :=
    row1_at _ n p
  unfold rOutTok cellT
  rw [← hz]
  have ht := takeTok_at (names_src tok) tok n p
  show Scalar.select (rOwn tok (ix2 n p)) (FloatOps.sitofp .f32 (rTakeTok tok (rSrc tok) (ix2 n p))) _ = _
  rw [ht]
  exact select_iff (own_at tok n p) _ _

end

/-! ## The kernel's results, cell by cell -/

section
open Cert.KernelIdeal Cert.KernelIdeal.Facts₀
variable {F : FTy → Type} [FloatOps F] (m : (ℓ : Loc nD τ sig) → Buf (Elt F) ℓ) (d : Dev nD)

/-- Row `77 n + p` of the flattened rows is row `p` of class `n`. -/
theorem embOf_at (n : Fin 1024) (p : Fin 77) (c : Fin 512) (h : 77 * n.val + p.val < 78848) :
    embOf m d (ix2 ⟨77 * n.val + p.val, h⟩ c) = m ((d.tc : Thread nD τ).loc main_arg0) (ix3 n p c) := by
  unfold embOf
  refine shapeCast_apply _ _ _ (ix3 n p c) ?_
  rw [Shape.rowMajor_val_three (d := ![1024, 77, 512]), Shape.rowMajor_val_two (d := ![78848, 512])]
  show (n.val * 77 + p.val) * 512 + c.val = (77 * n.val + p.val) * 512 + c.val
  omega

theorem outOf_at (n : Fin 1024) (p : Fin 77) (c : Fin 512) :
    outOf m d (ix3 n p c)
      = if own (eotAt (tokOf m d) n).val p.val then
          m ((d.tc : Thread nD τ).loc main_arg0) (ix3 n (posAt (tokOf m d) n p) c)
        else tabOf m d (ix2 p c) := by
  have hn := n.isLt
  have hp := p.isLt
  have hk : 77 * n.val + p.val < 78848 := by omega
  unfold outOf
  refine (shapeCast_apply _ _ _ (ix2 ⟨77 * n.val + p.val, hk⟩ c) ?_).trans ?_
  · rw [Shape.rowMajor_val_three (d := ![1024, 77, 512]), Shape.rowMajor_val_two (d := ![78848, 512])]
    show (77 * n.val + p.val) * 512 + c.val = (n.val * 77 + p.val) * 512 + c.val
    omega
  · have h1 : (⟨(77 * n.val + p.val) / 77, by omega⟩ : Fin 1024) = n := Fin.ext (by show _ / 77 = _; omega)
    have h2 : (⟨(77 * n.val + p.val) % 77, by omega⟩ : Fin 77) = p := Fin.ext (by show _ % 77 = _; omega)
    show cellE (embOf m d) (tokOf m d) (tabOf m d) ⟨(77 * n.val + p.val) / 77, _⟩ ⟨(77 * n.val + p.val) % 77, _⟩ c = _
    rw [h1, h2]
    unfold cellE
    exact congrArg (fun z => if own (eotAt (tokOf m d) n).val p.val then z else tabOf m d (ix2 p c))
      (embOf_at m d n (posAt (tokOf m d) n p) c _)

theorem outTokOf_at (n : Fin 1024) (p : Fin 77) : outTokOf m d (ix2 n p) = cellT (F := F) (tokOf m d) n p := by
  have hn := n.isLt
  unfold outTokOf
  refine (shapeCast_apply _ _ _ (ix3 (⟨n.val / 32, by omega⟩ : Fin 32) (⟨n.val % 32, by omega⟩ : Fin 32) p) ?_).trans ?_
  · rw [Shape.rowMajor_val_three (d := ![32, 32, 77]), Shape.rowMajor_val_two (d := ![1024, 77])]
    show (n.val / 32 * 32 + n.val % 32) * 77 + p.val = n.val * 77 + p.val
    omega
  · have h1 : (⟨32 * (n.val / 32) + n.val % 32, by omega⟩ : Fin 1024) = n := Fin.ext (by show 32 * _ + _ = _; omega)
    show cellT (tokOf m d) ⟨32 * (n.val / 32) + n.val % 32, _⟩ p = _
    rw [h1]

end

/-! ## The claim -/

section
open Cert.KernelIdeal
variable {F : FTy → Type} [FloatOps F] (m : (ℓ : Loc nD τ sig) → Buf (Elt F) ℓ) (d : Dev nD)

theorem rOut_eq :
    rOut (F := F) (m ((d.tc : Thread nD τ).loc main_arg0)) (m ((d.tc : Thread nD τ).loc main_arg1)) (m ((d.tc : Thread nD τ).loc main_arg2))
      = outOf m d := by
  funext i
  obtain ⟨n, p, c, rfl⟩ : ∃ (n : Fin 1024) (p : Fin 77) (c : Fin 512), i = ix3 n p c := ⟨i 0, i 1, i 2, eq_ix3 i⟩
  exact (rOut_at _ _ _ n p c).trans (outOf_at m d n p c).symm

theorem rOutTok_eq : rOutTok (F := F) (m ((d.tc : Thread nD τ).loc main_arg1)) = outTokOf m d := by
  funext i
  obtain ⟨n, p, rfl⟩ : ∃ (n : Fin 1024) (p : Fin 77), i = ix2 n p := ⟨i 0, i 1, eq_ix2 i⟩
  exact (rOutTok_at _ n p).trans (outTokOf_at m d n p).symm

end

theorem algebraic : Cert.algebraic_KernelIdeal_ReferenceIdeal := by
  intro m g m' g' hpre hagree
  refine ⟨fun c => outOf m c, fun c => outTokOf m c,
    θ_run_mono (run_main m g fun d => inRange_of_pre _ _ _ (hpre d)) fun r h c =>
      ⟨(h.1 c).2.2.2.1, (h.1 c).2.2.2.2, (h.1 c).1, (h.1 c).2.1, (h.1 c).2.2.1⟩,
    θ_run_mono (run_reference m' g') fun r h c => ⟨(h c).1.trans ?_, (h c).2.1.trans ?_, (h c).2.2⟩⟩
  · rw [(hagree c).1, (hagree c).2.1, (hagree c).2.2]
    exact rOut_eq m c
  · rw [(hagree c).2.1]
    exact rOutTok_eq m c

end Cert.Proof

end
-- ==== Proof.lean ====
/-
  The claim: the three frames, the idealization and the equality of results.
-/
module

public import proofs.«01_k».proof.Defs
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Pre_eot_in_range.Gen.facts,
    frame_kernel, frame_kernelIdeal, frame_reference, trivial, algebraic⟩

end Cert.Proof

end
